-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_inputs [hPre_finite_inputs : Cert.Pre_finite_inputs.Facts] (m : (ℓ : Loc Cert.SwaIdeal.nD Cert.SwaIdeal.τ Cert.SwaIdeal.sig) → Buf (Elt Ideal) ℓ) : Prop :=
  ∀ c : Dev Cert.SwaIdeal.nD,
    (Cert.Pre_finite_inputs.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_inputs [hPre_finite_inputs : Cert.Pre_finite_inputs.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_inputs.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_inputs [hSwaIdeal : Cert.SwaIdeal.Facts] [hPre_finite_inputs : Cert.Pre_finite_inputs.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_inputs m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_inputs [hSwaRefIdeal : Cert.SwaRefIdeal.Facts] [hPre_finite_inputs : Cert.Pre_finite_inputs.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_inputs m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_v32) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v2)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v2) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v3) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v3) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Swa_SwaIdeal : Prop :=
  IdealRules.named_const.Statement Cert.SwaIdeal.κ "mask" .f32 0xF149F2CA#32 ⊥

def algebraic_SwaIdeal_SwaRefIdeal_pre_finite_inputs [hSwaIdeal : Cert.SwaIdeal.Facts] [hSwaRefIdeal : Cert.SwaRefIdeal.Facts] [hPre_finite_inputs : Cert.Pre_finite_inputs.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_inputs m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v35)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v35) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v132) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v10) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v23) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_v30) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v6_0)) (v1 : (c : Dev Cert.CrossIdeal.nD) → Buf (Elt Ideal) ((c.tc : Thread Cert.CrossIdeal.nD Cert.CrossIdeal.τ).loc Cert.CrossIdeal.main_v6_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6_0) = v0 c
          ∧ r.2.mem ((c.tc : Thread Cert.CrossIdeal.nD Cert.CrossIdeal.τ).loc Cert.CrossIdeal.main_v6_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v41) = v0 c
          ∧ r.2.mem ((c.tc : Thread Cert.CrossRefIdeal.nD Cert.CrossRefIdeal.τ).loc Cert.CrossRefIdeal.main_v55) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v18) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def Claim : Prop :=
  ∃ (hNorm : Cert.Norm.Facts) (hNormIdeal : Cert.NormIdeal.Facts) (hNormRefIdeal : Cert.NormRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hSsmIn : Cert.SsmIn.Facts) (hSsmInIdeal : Cert.SsmInIdeal.Facts) (hSsmInRefIdeal : Cert.SsmInRefIdeal.Facts) (hGates : Cert.Gates.Facts) (hGatesIdeal : Cert.GatesIdeal.Facts) (hGatesRefIdeal : Cert.GatesRefIdeal.Facts) (hSwa : Cert.Swa.Facts) (hSwaIdeal : Cert.SwaIdeal.Facts) (hSwaRefIdeal : Cert.SwaRefIdeal.Facts) (hGlu : Cert.Glu.Facts) (hGluIdeal : Cert.GluIdeal.Facts) (hGluRefIdeal : Cert.GluRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hMemKv : Cert.MemKv.Facts) (hMemKvIdeal : Cert.MemKvIdeal.Facts) (hMemKvRefIdeal : Cert.MemKvRefIdeal.Facts) (hCross : Cert.Cross.Facts) (hCrossIdeal : Cert.CrossIdeal.Facts) (hCrossRefIdeal : Cert.CrossRefIdeal.Facts) (hLast : Cert.Last.Facts) (hLastIdeal : Cert.LastIdeal.Facts) (hLastRefIdeal : Cert.LastRefIdeal.Facts) (hPre_finite_inputs : Cert.Pre_finite_inputs.Facts),
    quiescent_Norm (hNorm := hNorm)
    ∧ quiescent_NormIdeal (hNormIdeal := hNormIdeal)
    ∧ quiescent_NormRefIdeal (hNormRefIdeal := hNormRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_Gates (hGates := hGates)
    ∧ quiescent_GatesIdeal (hGatesIdeal := hGatesIdeal)
    ∧ quiescent_GatesRefIdeal (hGatesRefIdeal := hGatesRefIdeal)
    ∧ quiescent_Swa (hSwa := hSwa)
    ∧ quiescent_SwaIdeal (hSwaIdeal := hSwaIdeal)
    ∧ quiescent_SwaIdeal_pre_finite_inputs (hSwaIdeal := hSwaIdeal) (hPre_finite_inputs := hPre_finite_inputs)
    ∧ quiescent_SwaRefIdeal (hSwaRefIdeal := hSwaRefIdeal)
    ∧ quiescent_SwaRefIdeal_pre_finite_inputs (hSwaRefIdeal := hSwaRefIdeal) (hPre_finite_inputs := hPre_finite_inputs)
    ∧ quiescent_Glu (hGlu := hGlu)
    ∧ quiescent_GluIdeal (hGluIdeal := hGluIdeal)
    ∧ quiescent_GluRefIdeal (hGluRefIdeal := hGluRefIdeal)
    ∧ quiescent_Mix (hMix := hMix)
    ∧ quiescent_MixIdeal (hMixIdeal := hMixIdeal)
    ∧ quiescent_MixRefIdeal (hMixRefIdeal := hMixRefIdeal)
    ∧ quiescent_Out (hOut := hOut)
    ∧ quiescent_OutIdeal (hOutIdeal := hOutIdeal)
    ∧ quiescent_OutRefIdeal (hOutRefIdeal := hOutRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Cross (hCross := hCross)
    ∧ quiescent_CrossIdeal (hCrossIdeal := hCrossIdeal)
    ∧ quiescent_CrossRefIdeal (hCrossRefIdeal := hCrossRefIdeal)
    ∧ quiescent_Last (hLast := hLast)
    ∧ quiescent_LastIdeal (hLastIdeal := hLastIdeal)
    ∧ quiescent_LastRefIdeal (hLastRefIdeal := hLastRefIdeal)
    ∧ preserves_Norm_NormIdeal
    ∧ algebraic_NormIdeal_NormRefIdeal (hNormIdeal := hNormIdeal) (hNormRefIdeal := hNormRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_SsmIn_SsmInIdeal
    ∧ algebraic_SsmInIdeal_SsmInRefIdeal (hSsmInIdeal := hSsmInIdeal) (hSsmInRefIdeal := hSsmInRefIdeal)
    ∧ preserves_Gates_GatesIdeal
    ∧ algebraic_GatesIdeal_GatesRefIdeal (hGatesIdeal := hGatesIdeal) (hGatesRefIdeal := hGatesRefIdeal)
    ∧ preserves_Swa_SwaIdeal
    ∧ algebraic_SwaIdeal_SwaRefIdeal_pre_finite_inputs (hSwaIdeal := hSwaIdeal) (hSwaRefIdeal := hSwaRefIdeal) (hPre_finite_inputs := hPre_finite_inputs)
    ∧ preserves_Glu_GluIdeal
    ∧ algebraic_GluIdeal_GluRefIdeal (hGluIdeal := hGluIdeal) (hGluRefIdeal := hGluRefIdeal)
    ∧ preserves_Mix_MixIdeal
    ∧ algebraic_MixIdeal_MixRefIdeal (hMixIdeal := hMixIdeal) (hMixRefIdeal := hMixRefIdeal)
    ∧ preserves_Out_OutIdeal
    ∧ algebraic_OutIdeal_OutRefIdeal (hOutIdeal := hOutIdeal) (hOutRefIdeal := hOutRefIdeal)
    ∧ preserves_MemKv_MemKvIdeal
    ∧ algebraic_MemKvIdeal_MemKvRefIdeal (hMemKvIdeal := hMemKvIdeal) (hMemKvRefIdeal := hMemKvRefIdeal)
    ∧ preserves_Cross_CrossIdeal
    ∧ algebraic_CrossIdeal_CrossRefIdeal (hCrossIdeal := hCrossIdeal) (hCrossRefIdeal := hCrossRefIdeal)
    ∧ preserves_Last_LastIdeal
    ∧ algebraic_LastIdeal_LastRefIdeal (hLastIdeal := hLastIdeal) (hLastRefIdeal := hLastRefIdeal)
-- ==== Pre_finite_inputs.lean ====
abbrev S16384x2560 : Shape := ⟨2, ![16384, 2560]⟩
abbrev S16384 : Shape := ⟨1, ![16384]⟩
abbrev S16 : Shape := ⟨1, ![16]⟩
abbrev S_ : Shape := ⟨0, ![]⟩

class Facts : Prop where
  bcast_S_S16384x2560 : S_.BroadcastsInDim S16384x2560 (![] : Fin 0 → Fin S16384x2560.rank)
  reducesTo_S16384x2560_S_d0_1 : S16384x2560.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16384x2560 .f32) (main_arg1 : IVec S16384 32) (main_arg2 : FVec F S16 .f32) : IVec S_ 1 :=
  let main_v0 : FVec F S16384x2560 .f32 := Host.absf main_arg0
  let main_cst : FVec F S_ .f32 := constant S_ .f32 0x7F800000#32
  let main_v1 : FVec F S16384x2560 .f32 := broadcastInDim S16384x2560 ![] bcast_S_S16384x2560 main_cst
  let main_v2 : IVec S16384x2560 1 := cmpf .olt main_v0 main_v1
  let main_c : IVec S_ 1 := constantI S_ 1 1#1
  let main_v3 : IVec S_ 1 := (fun x v => Host.reduce IntOp.andi x v reducesTo_S16384x2560_S_d0_1 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Up.lean ====
abbrev S16384x4096 : Shape := ⟨2, ![16384, 4096]⟩
abbrev S4x4096x8192 : Shape := ⟨3, ![4, 4096, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4x4096x8192, .f32⟩
  | .hbm, ⟨2, _⟩ => ⟨S16384x4096, .bf16⟩
  | .hbm, ⟨3, _⟩ => ⟨S4x4096x8192, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x4096 : Shape := ⟨2, ![16384, 4096]⟩
abbrev S4x4096x8192 : Shape := ⟨3, ![4, 4096, 8192]⟩
abbrev S1x4096x8192 : Shape := ⟨3, ![1, 4096, 8192]⟩
abbrev S4096x8192 : Shape := ⟨2, ![4096, 8192]⟩
abbrev S16384x8192 : Shape := ⟨2, ![16384, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x8192, .f32⟩
  | .hbm, ⟨2, _⟩ => ⟨S1x4096x8192, .f32⟩
  | .hbm, ⟨3, _⟩ => ⟨S4096x8192, .f32⟩
  | .hbm, ⟨4, _⟩ => ⟨S16384x8192, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Down.lean ====
abbrev S16384x4096 : Shape := ⟨2, ![16384, 4096]⟩
abbrev S4x4096x4096 : Shape := ⟨3, ![4, 4096, 4096]⟩
abbrev S4096 : Shape := ⟨1, ![4096]⟩
abbrev S1x4096 : Shape := ⟨2, ![1, 4096]⟩
abbrev S128x4096 : Shape := ⟨2, ![128, 4096]⟩
abbrev S1x4096x4096 : Shape := ⟨3, ![1, 4096, 4096]⟩
abbrev S4096x4096 : Shape := ⟨2, ![4096, 4096]⟩
abbrev S128 : Shape := ⟨1, ![128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S16384x4096, .bf16⟩
  | .hbm, ⟨6, _⟩ => ⟨S4x4096x4096, .bf16⟩
  | .hbm, ⟨7, _⟩ => ⟨S1x4096, .f32⟩
  | .hbm, ⟨8, _⟩ => ⟨S1x4096, .f32⟩
  | .hbm, ⟨9, _⟩ => ⟨S16384x4096, .f32⟩
  | .hbm, ⟨10, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S1x4096x4096, .bf16⟩
  | .local _ .vmem, ⟨3, _⟩ => ⟨S128x4096, .f32⟩
  | .local _ .vmem, ⟨4, _⟩ => ⟨S128x4096, .f32⟩
  | .local _ .vmem, ⟨5, _⟩ => ⟨S1x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S128x4096, .f32⟩
  | .local _ .vmem, ⟨12, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S16384x4096 : Shape := ⟨2, ![16384, 4096]⟩
abbrev S4x4096x4096 : Shape := ⟨3, ![4, 4096, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S1x4096x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Qkv.lean ====
abbrev S16384x4096 : Shape := ⟨2, ![16384, 4096]⟩
abbrev S4x4096x12800 : Shape := ⟨3, ![4, 4096, 12800]⟩
abbrev S16384x2560 : Shape := ⟨2, ![16384, 2560]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4x4096x12800, .f32⟩
  | .hbm, ⟨2, _⟩ => ⟨S16384x4096, .bf16⟩
  | .hbm, ⟨3, _⟩ => ⟨S4x4096x12800, .bf16⟩
  | .hbm, ⟨4, _⟩ => ⟨S16384x2560, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S16384x4096 : Shape := ⟨2, ![16384, 4096]⟩
abbrev S4x4096x12800 : Shape := ⟨3, ![4, 4096, 12800]⟩
abbrev S1x4096x12800 : Shape := ⟨3, ![1, 4096, 12800]⟩
abbrev S4096x12800 : Shape := ⟨2, ![4096, 12800]⟩
abbrev S16384x12800 : Shape := ⟨2, ![16384, 12800]⟩
abbrev S16384x2560 : Shape := ⟨2, ![16384, 2560]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x12800, .f32⟩
  | .hbm, ⟨2, _⟩ => ⟨S1x4096x12800, .f32⟩
  | .hbm, ⟨3, _⟩ => ⟨S4096x12800, .f32⟩
  | .hbm, ⟨4, _⟩ => ⟨S16384x12800, .f32⟩
  | .hbm, ⟨5, _⟩ => ⟨S16384x2560, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmIn.lean ====
abbrev S16384x4096 : Shape := ⟨2, ![16384, 4096]⟩
abbrev S4x4096x12800 : Shape := ⟨3, ![4, 4096, 12800]⟩
abbrev S16384x2048 : Shape := ⟨2, ![16384, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4x4096x12800, .f32⟩
  | .hbm, ⟨2, _⟩ => ⟨S16384x4096, .bf16⟩
  | .hbm, ⟨3, _⟩ => ⟨S4x4096x12800, .bf16⟩
  | .hbm, ⟨4, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c2560_i32 : BitVec 32 := 2560#32
  let arg1 : BitVec 32 := BitVec.ofNat 32 (i 1).val
  let c1024_i32 : BitVec 32 := 1024#32
  let v0 : BitVec 32 := Scalar.muli arg1 c1024_i32
  let v1 : BitVec 32 := Scalar.addi c2560_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2560_i32 : BitVec 32 := 2560#32
  let v1 : BitVec 32 := Scalar.addi c2560_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInRefIdeal.lean ====
abbrev S16384x4096 : Shape := ⟨2, ![16384, 4096]⟩
abbrev S4x4096x12800 : Shape := ⟨3, ![4, 4096, 12800]⟩
abbrev S1x4096x12800 : Shape := ⟨3, ![1, 4096, 12800]⟩
abbrev S4096x12800 : Shape := ⟨2, ![4096, 12800]⟩
abbrev S16384x12800 : Shape := ⟨2, ![16384, 12800]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x12800, .f32⟩
  | .hbm, ⟨2, _⟩ => ⟨S1x4096x12800, .f32⟩
  | .hbm, ⟨3, _⟩ => ⟨S4096x12800, .f32⟩
  | .hbm, ⟨4, _⟩ => ⟨S16384x12800, .f32⟩
  | .hbm, ⟨5, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gates.lean ====
abbrev S16384x4096 : Shape := ⟨2, ![16384, 4096]⟩
abbrev S4x4096x12800 : Shape := ⟨3, ![4, 4096, 12800]⟩
abbrev S16384x8192 : Shape := ⟨2, ![16384, 8192]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4x4096x12800, .f32⟩
  | .hbm, ⟨2, _⟩ => ⟨S16384x4096, .bf16⟩
  | .hbm, ⟨3, _⟩ => ⟨S4x4096x12800, .bf16⟩
  | .hbm, ⟨4, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c4608_i32 : BitVec 32 := 4608#32
  let arg1 : BitVec 32 := BitVec.ofNat 32 (i 1).val
  let c1024_i32 : BitVec 32 := 1024#32
  let v0 : BitVec 32 := Scalar.muli arg1 c1024_i32
  let v1 : BitVec 32 := Scalar.addi c4608_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4608_i32 : BitVec 32 := 4608#32
  let v1 : BitVec 32 := Scalar.addi c4608_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x4096 : Shape := ⟨2, ![16384, 4096]⟩
abbrev S4x4096x12800 : Shape := ⟨3, ![4, 4096, 12800]⟩
abbrev S1x4096x12800 : Shape := ⟨3, ![1, 4096, 12800]⟩
abbrev S4096x12800 : Shape := ⟨2, ![4096, 12800]⟩
abbrev S16384x12800 : Shape := ⟨2, ![16384, 12800]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x12800, .f32⟩
  | .hbm, ⟨2, _⟩ => ⟨S1x4096x12800, .f32⟩
  | .hbm, ⟨3, _⟩ => ⟨S4096x12800, .f32⟩
  | .hbm, ⟨4, _⟩ => ⟨S16384x12800, .f32⟩
  | .hbm, ⟨5, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Swa.lean ====
abbrev S16384x2560 : Shape := ⟨2, ![16384, 2560]⟩
abbrev S16384 : Shape := ⟨1, ![16384]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S1x16 : Shape := ⟨2, ![1, 16]⟩
abbrev S16384x2048 : Shape := ⟨2, ![16384, 2048]⟩
abbrev S256x2048 : Shape := ⟨2, ![256, 2048]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S256x1024 : Shape := ⟨2, ![256, 1024]⟩
abbrev S1x1 : Shape := ⟨2, ![1, 1]⟩
abbrev S1x1024 : Shape := ⟨2, ![1, 1024]⟩
abbrev S1024x128 : Shape := ⟨2, ![1024, 128]⟩
abbrev S1024 : Shape := ⟨1, ![1024]⟩

abbrev nBuf : Space → Nat
  | .hbm => 57
  | .vmem => 24
  | .smem => 1
  | _ => 0

abbrev bufTy : (tb : Table) → Fin (tcTables nBuf tb) → BufTy
  | .hbm, ⟨0, _⟩ => ⟨S16384x2560, .f32⟩
  | .hbm, ⟨1, _⟩ => ⟨S16384, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S96, .f32⟩
  | .hbm, ⟨19, _⟩ => ⟨S128, .f32⟩
  | .hbm, ⟨20, _⟩ => ⟨S1x128, .f32⟩
  | .hbm, ⟨21, _⟩ => ⟨S16384x1, .i32⟩
  | .hbm, ⟨22, _⟩ => ⟨S16384x1, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .i32⟩
  | .hbm, ⟨29, _⟩ => ⟨S_, .i32⟩
  | .hbm, ⟨30, _⟩ => ⟨S16384x128, .i32⟩
  | .hbm, ⟨31, _⟩ => ⟨S16384x128, .i1⟩
  | .hbm, ⟨32, _⟩ => ⟨S_, .f32⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S_, .i32⟩
  | .hbm, ⟨37, _⟩ => ⟨S16384x128, .i32⟩
  | .hbm, ⟨38, _⟩ => ⟨S16384x128, .i1⟩
  | .hbm, ⟨39, _⟩ => ⟨S16384x128, .f32⟩
  | .hbm, ⟨40, _⟩ => ⟨S_, .f32⟩
  | .hbm, ⟨41, _⟩ => ⟨S_, .f32⟩
  | .hbm, ⟨42, _⟩ => ⟨S16384x128, .f32⟩
  | .hbm, ⟨43, _⟩ => ⟨S16384x128, .f32⟩
  | .hbm, ⟨44, _⟩ => ⟨S_, .i32⟩
  | .hbm, ⟨45, _⟩ => ⟨S16384x128, .i32⟩
  | .hbm, ⟨46, _⟩ => ⟨S16384x128, .i1⟩
  | .hbm, ⟨47, _⟩ => ⟨S_, .i32⟩
  | .hbm, ⟨48, _⟩ => ⟨S16384x128, .i32⟩
  | .hbm, ⟨49, _⟩ => ⟨S16384x128, .i1⟩
  | .hbm, ⟨50, _⟩ => ⟨S16384x128, .i1⟩
  | .hbm, ⟨51, _⟩ => ⟨S_, .f32⟩
  | .hbm, ⟨52, _⟩ => ⟨S_, .f32⟩
  | .hbm, ⟨53, _⟩ => ⟨S16384x128, .f32⟩
  | .hbm, ⟨54, _⟩ => ⟨S16384x128, .f32⟩
  | .hbm, ⟨55, _⟩ => ⟨S1x16, .f32⟩
  | .hbm, ⟨56, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S128x256, .f32⟩
  | .local _ .vmem, ⟨3, _⟩ => ⟨S128x256, .f32⟩
  | .local _ .vmem, ⟨4, _⟩ => ⟨S256x256, .f32⟩
  | .local _ .vmem, ⟨5, _⟩ => ⟨S256x256, .f32⟩
  | .local _ .vmem, ⟨6, _⟩ => ⟨S128x256, .f32⟩
  | .local _ .vmem, ⟨7, _⟩ => ⟨S128x256, .f32⟩
  | .local _ .vmem, ⟨8, _⟩ => ⟨S256x256, .f32⟩
  | .local _ .vmem, ⟨9, _⟩ => ⟨S256x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x2048, .bf16⟩
  | .local _ .vmem, ⟨23, _⟩ => ⟨S256x2048, .bf16⟩
  | .local _ .smem, ⟨0, _⟩ => ⟨S1x16, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_call2_v0 : Ref sig .tc := ⟨.hbm, 52, rfl⟩
abbrev main_call2_v1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SwaIdeal.lean ====
variable {F : FTy → Type} [FloatOps F] [Named F]
def κ : String → Option EReal := fun
  | "mask" => some ⊥
  | _ => none
-- ==== SwaRefIdeal.lean ====
abbrev S16384x2560 : Shape := ⟨2, ![16384, 2560]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x2048 : Shape := ⟨2, ![16384, 2048]⟩
abbrev S16384x256 : Shape := ⟨2, ![16384, 256]⟩
abbrev S16384x16x128 : Shape := ⟨3, ![16384, 16, 128]⟩
abbrev S16384x16x16 : Shape := ⟨3, ![16384, 16, 16]⟩
abbrev S16384x16x96 : Shape := ⟨3, ![16384, 16, 96]⟩
abbrev S16384x2x128 : Shape := ⟨3, ![16384, 2, 128]⟩
abbrev S16384x2x16 : Shape := ⟨3, ![16384, 2, 16]⟩
abbrev S16384x2x96 : Shape := ⟨3, ![16384, 2, 96]⟩
abbrev S128x128x2x8x128 : Shape := ⟨5, ![128, 128, 2, 8, 128]⟩
abbrev S128x128x2x128 : Shape := ⟨4, ![128, 128, 2, 128]⟩
abbrev S1x128x2x128 : Shape := ⟨4, ![1, 128, 2, 128]⟩
abbrev S127x128x2x128 : Shape := ⟨4, ![127, 128, 2, 128]⟩
abbrev S128x256x2x128 : Shape := ⟨4, ![128, 256, 2, 128]⟩
abbrev S128x2x256x128x8 : Shape := ⟨5, ![128, 2, 256, 128, 8]⟩
abbrev S128x2x8x128x256 : Shape := ⟨5, ![128, 2, 8, 128, 256]⟩
abbrev S128 : Shape := ⟨1, ![128]⟩
abbrev S256 : Shape := ⟨1, ![256]⟩
abbrev S1x256 : Shape := ⟨2, ![1, 256]⟩
abbrev S128x1 : Shape := ⟨2, ![128, 1]⟩
abbrev S128x256 : Shape := ⟨2, ![128, 256]⟩
abbrev S1x128x256 : Shape := ⟨3, ![1, 128, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S2x8 : Shape := ⟨2, ![2, 8]⟩
abbrev S1x2x8x1 : Shape := ⟨4, ![1, 2, 8, 1]⟩
abbrev S128x2x8x128 : Shape := ⟨4, ![128, 2, 8, 128]⟩
abbrev S128x2x8x128x1 : Shape := ⟨5, ![128, 2, 8, 128, 1]⟩
abbrev S128x2x128x8x128 : Shape := ⟨5, ![128, 2, 128, 8, 128]⟩

abbrev nBuf : Space → Nat
  | .hbm => 189
  | .vmem => 0
  | .smem => 0
  | _ => 0

abbrev hbmTy0_0 (i : Nat) : BufTy := match i % 128 with
  | 0 => ⟨S16384x2560, .f32⟩
  | 1 => ⟨S16384, .i32⟩
  | 2 => ⟨S16, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16384, .f32⟩
  | 18 => ⟨S16384x1, .f32⟩
  | 19 => ⟨S1x16, .f32⟩
  | 20 => ⟨S16384x16, .f32⟩
  | 21 => ⟨S16384x16, .f32⟩
  | 22 => ⟨S16384x16, .f32⟩
  | 23 => ⟨S16384x16, .f32⟩
  | 24 => ⟨S16384x1x16, .f32⟩
  | 25 => ⟨S16384x16, .f32⟩
  | 26 => ⟨S16384x1x16, .f32⟩
  | 27 => ⟨S16384x2048, .f32⟩
  | 28 => ⟨S16384x256, .f32⟩
  | 29 => ⟨S16384x256, .f32⟩
  | 30 => ⟨S16384x16x128, .f32⟩
  | 31 => ⟨S16384x16x16, .f32⟩
  | 32 => ⟨S16384x16x16, .f32⟩
  | 33 => ⟨S16384x16x16, .f32⟩
  | 34 => ⟨S16384x16x16, .f32⟩
  | 35 => ⟨S16384x16x16, .f32⟩
  | 36 => ⟨S16384x16x16, .f32⟩
  | 37 => ⟨S16384x16x16, .f32⟩
  | 38 => ⟨S16384x16x16, .f32⟩
  | 39 => ⟨S16384x16x16, .f32⟩
  | 40 => ⟨S16384x16x16, .f32⟩
  | 41 => ⟨S16384x16x16, .f32⟩
  | 42 => ⟨S16384x16x16, .f32⟩
  | 43 => ⟨S16384x16x96, .f32⟩
  | 44 => ⟨S16384x16x128, .f32⟩
  | 45 => ⟨S16384x2x128, .f32⟩
  | 46 => ⟨S16384x2x16, .f32⟩
  | 47 => ⟨S16384x2x16, .f32⟩
  | 48 => ⟨S16384x2x16, .f32⟩
  | 49 => ⟨S16384x2x16, .f32⟩
  | 50 => ⟨S16384x2x16, .f32⟩
  | 51 => ⟨S16384x2x16, .f32⟩
  | 52 => ⟨S16384x2x16, .f32⟩
  | 53 => ⟨S16384x2x16, .f32⟩
  | 54 => ⟨S16384x2x16, .f32⟩
  | 55 => ⟨S16384x2x16, .f32⟩
  | 56 => ⟨S16384x2x16, .f32⟩
  | 57 => ⟨S16384x2x16, .f32⟩
  | 58 => ⟨S16384x2x96, .f32⟩
  | 59 => ⟨S16384x2x128, .f32⟩
  | 60 => ⟨S128x128x2x8x128, .f32⟩
  | 61 => ⟨S128x128x2x128, .f32⟩
  | 62 => ⟨S1x128x2x128, .f32⟩
  | 63 => ⟨S_, .f32⟩
  | 64 => ⟨S1x128x2x128, .f32⟩
  | 65 => ⟨S127x128x2x128, .f32⟩
  | 66 => ⟨S128x128x2x128, .f32⟩
  | 67 => ⟨S128x256x2x128, .f32⟩
  | 68 => ⟨S16384x2x128, .f32⟩
  | 69 => ⟨S128x128x2x128, .f32⟩
  | 70 => ⟨S1x128x2x128, .f32⟩
  | 71 => ⟨S_, .f32⟩
  | 72 => ⟨S1x128x2x128, .f32⟩
  | 73 => ⟨S127x128x2x128, .f32⟩
  | 74 => ⟨S128x128x2x128, .f32⟩
  | 75 => ⟨S128x256x2x128, .f32⟩
  | 76 => ⟨S128x2x256x128x8, .f32⟩
  | 77 => ⟨S128x2x8x128x256, .f32⟩
  | 78 => ⟨S_, .f32⟩
  | 79 => ⟨S128x2x8x128x256, .f32⟩
  | 80 => ⟨S128x2x8x128x256, .f32⟩
  | 81 => ⟨S128, .i32⟩
  | 82 => ⟨S_, .i32⟩
  | 83 => ⟨S_, .i32⟩
  | 84 => ⟨S128, .i32⟩
  | 85 => ⟨S128, .i32⟩
  | 86 => ⟨S128, .i32⟩
  | 87 => ⟨S_, .i32⟩
  | 88 => ⟨S128, .i32⟩
  | 89 => ⟨S128, .i1⟩
  | 90 => ⟨S128, .i32⟩
  | 91 => ⟨S128, .i32⟩
  | 92 => ⟨S_, .i32⟩
  | 93 => ⟨S128, .i32⟩
  | 94 => ⟨S128, .i1⟩
  | 95 => ⟨S128, .i1⟩
  | 96 => ⟨S_, .i32⟩
  | 97 => ⟨S128, .i32⟩
  | 98 => ⟨S128, .i32⟩
  | 99 => ⟨S128, .i32⟩
  | 100 => ⟨S256, .i32⟩
  | 101 => ⟨S_, .i32⟩
  | 102 => ⟨S_, .i32⟩
  | 103 => ⟨S256, .i32⟩
  | 104 => ⟨S256, .i32⟩
  | 105 => ⟨S256, .i32⟩
  | 106 => ⟨S_, .i32⟩
  | 107 => ⟨S256, .i32⟩
  | 108 => ⟨S256, .i1⟩
  | 109 => ⟨S256, .i32⟩
  | 110 => ⟨S256, .i32⟩
  | 111 => ⟨S_, .i32⟩
  | 112 => ⟨S256, .i32⟩
  | 113 => ⟨S256, .i1⟩
  | 114 => ⟨S256, .i1⟩
  | 115 => ⟨S_, .i32⟩
  | 116 => ⟨S256, .i32⟩
  | 117 => ⟨S256, .i32⟩
  | 118 => ⟨S256, .i32⟩
  | 119 => ⟨S1x256, .i32⟩
  | 120 => ⟨S128x1, .i32⟩
  | 121 => ⟨S_, .i32⟩
  | 122 => ⟨S128x1, .i32⟩
  | 123 => ⟨S128x1, .i32⟩
  | 124 => ⟨S_, .i32⟩
  | 125 => ⟨S128x1, .i32⟩
  | 126 => ⟨S128x1, .i32⟩
  | 127 => ⟨S128x256, .i32⟩
  | _ => ⟨S16384x2560, .f32⟩

abbrev hbmTy0_1 (i : Nat) : BufTy := match i % 128 with
  | 0 => ⟨S128x256, .i32⟩
  | 1 => ⟨S128x256, .i1⟩
  | 2 => ⟨S1x256, .i32⟩
  | 3 => ⟨S128x1, .i32⟩
  | 4 => ⟨S_, .i32⟩
  | 5 => ⟨S128x1, .i32⟩
  | 6 => ⟨S128x1, .i32⟩
  | 7 => ⟨S128x256, .i32⟩
  | 8 => ⟨S128x256, .i32⟩
  | 9 => ⟨S128x256, .i1⟩
  | 10 => ⟨S128x256, .i1⟩
  | 11 => ⟨S128, .i32⟩
  | 12 => ⟨S128x1, .i32⟩
  | 13 => ⟨S_, .i32⟩
  | 14 => ⟨S128x1, .i32⟩
  | 15 => ⟨S128x1, .i32⟩
  | 16 => ⟨S_, .i32⟩
  | 17 => ⟨S128x1, .i32⟩
  | 18 => ⟨S128x1, .i32⟩
  | 19 => ⟨S256, .i32⟩
  | 20 => ⟨S1x256, .i32⟩
  | 21 => ⟨S128x256, .i32⟩
  | 22 => ⟨S128x256, .i32⟩
  | 23 => ⟨S128x256, .i32⟩
  | 24 => ⟨S1x128x256, .i1⟩
  | 25 => ⟨S_, .i32⟩
  | 26 => ⟨S128x256, .i32⟩
  | 27 => ⟨S128x256, .i1⟩
  | 28 => ⟨S128x1x256, .i1⟩
  | 29 => ⟨S128x128x256, .i1⟩
  | 30 => ⟨S128x128x256, .i1⟩
  | 31 => ⟨S128x128x256, .i1⟩
  | 32 => ⟨S128x1x1x128x256, .i1⟩
  | 33 => ⟨S_, .f32⟩
  | 34 => ⟨S_, .f32⟩
  | 35 => ⟨S128x2x8x128x256, .i1⟩
  | 36 => ⟨S128x2x8x128x256, .f32⟩
  | 37 => ⟨S128x2x8x128x256, .f32⟩
  | 38 => ⟨S2x8, .f32⟩
  | 39 => ⟨S1x2x8x1, .f32⟩
  | 40 => ⟨S_, .f32⟩
  | 41 => ⟨S128x2x8x128, .f32⟩
  | 42 => ⟨S128x2x8x128, .f32⟩
  | 43 => ⟨S128x2x8x128, .f32⟩
  | 44 => ⟨S128x2x8x128x1, .f32⟩
  | 45 => ⟨S128x2x8x128x256, .f32⟩
  | 46 => ⟨S128x2x8x128x256, .f32⟩
  | 47 => ⟨S128x2x8x128x256, .f32⟩
  | 48 => ⟨S_, .f32⟩
  | 49 => ⟨S128x2x8x128, .f32⟩
  | 50 => ⟨S128x2x8x128, .f32⟩
  | 51 => ⟨S128x2x8x128, .f32⟩
  | 52 => ⟨S128x2x8x128, .f32⟩
  | 53 => ⟨S128x2x8x128, .f32⟩
  | 54 => ⟨S128x2x8x128x1, .f32⟩
  | 55 => ⟨S128x2x8x128x256, .f32⟩
  | 56 => ⟨S128x2x8x128x256, .f32⟩
  | 57 => ⟨S128x2x128x8x128, .f32⟩
  | 58 => ⟨S128x128x2x8x128, .f32⟩
  | 59 => ⟨S16384x2048, .f32⟩
  | 60 => ⟨S16384x2048, .bf16⟩
  | _ => ⟨S16384x2560, .f32⟩

abbrev hbmTy (i : Nat) : BufTy := match i / 128 with
  | 0 => hbmTy0_0 i
  | 1 => hbmTy0_1 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_4 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_5 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_c : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_c : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_0 : Ref sig .tc := ⟨.hbm, 96, rfl⟩
abbrev main_call0_v12 : Ref sig .tc := ⟨.hbm, 97, rfl⟩
abbrev main_call0_v13 : Ref sig .tc := ⟨.hbm, 98, rfl⟩
abbrev main_v72 : Ref sig .tc := ⟨.hbm, 99, rfl⟩
abbrev main_v73 : Ref sig .tc := ⟨.hbm, 100, rfl⟩
abbrev main_c_6 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_c : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_0 : Ref sig .tc := ⟨.hbm, 115, rfl⟩
abbrev main_call1_v12 : Ref sig .tc := ⟨.hbm, 116, rfl⟩
abbrev main_call1_v13 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_7 : Ref sig .tc := ⟨.hbm, 121, rfl⟩
abbrev main_v77 : Ref sig .tc := ⟨.hbm, 122, rfl⟩
abbrev main_v78 : Ref sig .tc := ⟨.hbm, 123, rfl⟩
abbrev main_c_8 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_9 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_c_10 : Ref sig .tc := ⟨.hbm, 141, rfl⟩
abbrev main_v94 : Ref sig .tc := ⟨.hbm, 142, rfl⟩
abbrev main_v95 : Ref sig .tc := ⟨.hbm, 143, rfl⟩
abbrev main_c_11 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_12 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_13 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_14 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_15 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩

abbrev nD : Nat := 1
abbrev τ : Topo := Topo.v7x

variable {F : FTy → Type} [FloatOps F]
-- ==== Glu.lean ====
abbrev S16384x2048 : Shape := ⟨2, ![16384, 2048]⟩
abbrev S4x2048x2048 : Shape := ⟨3, ![4, 2048, 2048]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S4x2048x2048, .f32⟩
  | .hbm, ⟨2, _⟩ => ⟨S4x2048x2048, .bf16⟩
  | .hbm, ⟨3, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x1024, .f32⟩
  | .local _ .vmem, ⟨3, _⟩ => ⟨S1024x1024, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .bf16⟩
  | .local _ .vmem, ⟨7, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S16384x2048 : Shape := ⟨2, ![16384, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Mix.lean ====
abbrev S16384x2048 : Shape := ⟨2, ![16384, 2048]⟩
abbrev S4x2048x4096 : Shape := ⟨3, ![4, 2048, 4096]⟩
abbrev S16384x8192 : Shape := ⟨2, ![16384, 8192]⟩
abbrev S16384x4096 : Shape := ⟨2, ![16384, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4x2048x4096, .f32⟩
  | .hbm, ⟨3, _⟩ => ⟨S4x2048x4096, .f32⟩
  | .hbm, ⟨4, _⟩ => ⟨S16384x8192, .f32⟩
  | .hbm, ⟨5, _⟩ => ⟨S16384x2048, .bf16⟩
  | .hbm, ⟨6, _⟩ => ⟨S16384x2048, .bf16⟩
  | .hbm, ⟨7, _⟩ => ⟨S4x2048x4096, .bf16⟩
  | .hbm, ⟨8, _⟩ => ⟨S4x2048x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixRefIdeal.lean ====
abbrev S16384x2048 : Shape := ⟨2, ![16384, 2048]⟩
abbrev S4x2048x4096 : Shape := ⟨3, ![4, 2048, 4096]⟩
abbrev S16384x8192 : Shape := ⟨2, ![16384, 8192]⟩
abbrev S16384x4096 : Shape := ⟨2, ![16384, 4096]⟩
abbrev S1x2048x4096 : Shape := ⟨3, ![1, 2048, 4096]⟩
abbrev S2048x4096 : Shape := ⟨2, ![2048, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4x2048x4096, .f32⟩
  | .hbm, ⟨3, _⟩ => ⟨S4x2048x4096, .f32⟩
  | .hbm, ⟨4, _⟩ => ⟨S16384x8192, .f32⟩
  | .hbm, ⟨5, _⟩ => ⟨S16384x4096, .f32⟩
  | .hbm, ⟨6, _⟩ => ⟨S16384x4096, .f32⟩
  | .hbm, ⟨7, _⟩ => ⟨S1x2048x4096, .f32⟩
  | .hbm, ⟨8, _⟩ => ⟨S2048x4096, .f32⟩
  | .hbm, ⟨9, _⟩ => ⟨S16384x4096, .f32⟩
  | .hbm, ⟨10, _⟩ => ⟨S1x2048x4096, .f32⟩
  | .hbm, ⟨11, _⟩ => ⟨S2048x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Out.lean ====
abbrev S16384x4096 : Shape := ⟨2, ![16384, 4096]⟩
abbrev S4x4096x4096 : Shape := ⟨3, ![4, 4096, 4096]⟩
abbrev S4096 : Shape := ⟨1, ![4096]⟩
abbrev S1x4096 : Shape := ⟨2, ![1, 4096]⟩
abbrev S128x4096 : Shape := ⟨2, ![128, 4096]⟩
abbrev S1x4096x4096 : Shape := ⟨3, ![1, 4096, 4096]⟩
abbrev S4096x4096 : Shape := ⟨2, ![4096, 4096]⟩
abbrev S128 : Shape := ⟨1, ![128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S16384x4096, .bf16⟩
  | .hbm, ⟨6, _⟩ => ⟨S4x4096x4096, .bf16⟩
  | .hbm, ⟨7, _⟩ => ⟨S1x4096, .f32⟩
  | .hbm, ⟨8, _⟩ => ⟨S1x4096, .f32⟩
  | .hbm, ⟨9, _⟩ => ⟨S16384x4096, .f32⟩
  | .hbm, ⟨10, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S1x4096x4096, .bf16⟩
  | .local _ .vmem, ⟨3, _⟩ => ⟨S128x4096, .f32⟩
  | .local _ .vmem, ⟨4, _⟩ => ⟨S128x4096, .f32⟩
  | .local _ .vmem, ⟨5, _⟩ => ⟨S1x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S128x4096, .f32⟩
  | .local _ .vmem, ⟨12, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x4096 : Shape := ⟨2, ![16384, 4096]⟩
abbrev S4x4096x4096 : Shape := ⟨3, ![4, 4096, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S1x4096x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x4096, .f32⟩
  | .hbm, ⟨37, _⟩ => ⟨S16384x4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MemKv.lean ====
abbrev S256x4096 : Shape := ⟨2, ![256, 4096]⟩
abbrev S4096 : Shape := ⟨1, ![4096]⟩
abbrev S4x4096x1024 : Shape := ⟨3, ![4, 4096, 1024]⟩
abbrev S1x4096 : Shape := ⟨2, ![1, 4096]⟩
abbrev S256x1024 : Shape := ⟨2, ![256, 1024]⟩
abbrev S1x4096x512 : Shape := ⟨3, ![1, 4096, 512]⟩
abbrev S256x512 : Shape := ⟨2, ![256, 512]⟩
abbrev S256 : Shape := ⟨1, ![256]⟩
abbrev S256x1 : Shape := ⟨2, ![256, 1]⟩
abbrev S4096x512 : Shape := ⟨2, ![4096, 512]⟩

abbrev nBuf : Space → Nat
  | .hbm => 6
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S4x4096x1024, .f32⟩
  | .hbm, ⟨3, _⟩ => ⟨S4x4096x1024, .bf16⟩
  | .hbm, ⟨4, _⟩ => ⟨S1x4096, .f32⟩
  | .hbm, ⟨5, _⟩ => ⟨S256x1024, .bf16⟩
  | .local _ .vmem, ⟨0, _⟩ => ⟨S256x4096, .f32⟩
  | .local _ .vmem, ⟨1, _⟩ => ⟨S1x4096, .f32⟩
  | .local _ .vmem, ⟨2, _⟩ => ⟨S1x4096x512, .bf16⟩
  | .local _ .vmem, ⟨3, _⟩ => ⟨S1x4096x512, .bf16⟩
  | .local _ .vmem, ⟨4, _⟩ => ⟨S256x512, .bf16⟩
  | .local _ .vmem, ⟨5, _⟩ => ⟨S256x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S256x4096 : Shape := ⟨2, ![256, 4096]⟩
abbrev S4096 : Shape := ⟨1, ![4096]⟩
abbrev S4x4096x1024 : Shape := ⟨3, ![4, 4096, 1024]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S1x4096x1024 : Shape := ⟨3, ![1, 4096, 1024]⟩
abbrev S4096x1024 : Shape := ⟨2, ![4096, 1024]⟩
abbrev S256x1024 : Shape := ⟨2, ![256, 1024]⟩

abbrev nBuf : Space → Nat
  | .hbm => 23
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S4x4096x1024, .f32⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x4096, .f32⟩
  | .hbm, ⟨15, _⟩ => ⟨S256x4096, .f32⟩
  | .hbm, ⟨16, _⟩ => ⟨S1x4096, .f32⟩
  | .hbm, ⟨17, _⟩ => ⟨S256x4096, .f32⟩
  | .hbm, ⟨18, _⟩ => ⟨S256x4096, .f32⟩
  | .hbm, ⟨19, _⟩ => ⟨S1x4096x1024, .f32⟩
  | .hbm, ⟨20, _⟩ => ⟨S4096x1024, .f32⟩
  | .hbm, ⟨21, _⟩ => ⟨S256x1024, .f32⟩
  | .hbm, ⟨22, _⟩ => ⟨S256x1024, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Cross.lean ====
abbrev S16384x4096 : Shape := ⟨2, ![16384, 4096]⟩
abbrev S4x4096x512 : Shape := ⟨3, ![4, 4096, 512]⟩
abbrev S256x1024 : Shape := ⟨2, ![256, 1024]⟩
abbrev S4x512x4096 : Shape := ⟨3, ![4, 512, 4096]⟩
abbrev S4096 : Shape := ⟨1, ![4096]⟩
abbrev S1x4096 : Shape := ⟨2, ![1, 4096]⟩
abbrev S256x4096 : Shape := ⟨2, ![256, 4096]⟩
abbrev S1x4096x512 : Shape := ⟨3, ![1, 4096, 512]⟩
abbrev S1x512x4096 : Shape := ⟨3, ![1, 512, 4096]⟩
abbrev S4096x512 : Shape := ⟨2, ![4096, 512]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S512x4096 : Shape := ⟨2, ![512, 4096]⟩

abbrev nBuf : Space → Nat
  | .hbm => 15
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4x4096x512, .f32⟩
  | .hbm, ⟨3, _⟩ => ⟨S256x1024, .f32⟩
  | .hbm, ⟨4, _⟩ => ⟨S4x512x4096, .f32⟩
  | .hbm, ⟨5, _⟩ => ⟨S4096, .f32⟩
  | .hbm, ⟨6, _⟩ => ⟨S4096, .f32⟩
  | .hbm, ⟨7, _⟩ => ⟨S16384x4096, .bf16⟩
  | .hbm, ⟨8, _⟩ => ⟨S4x4096x512, .bf16⟩
  | .hbm, ⟨9, _⟩ => ⟨S256x1024, .bf16⟩
  | .hbm, ⟨10, _⟩ => ⟨S4x512x4096, .bf16⟩
  | .hbm, ⟨11, _⟩ => ⟨S1x4096, .f32⟩
  | .hbm, ⟨12, _⟩ => ⟨S1x4096, .f32⟩
  | .hbm, ⟨13, _⟩ => ⟨S16384x4096, .f32⟩
  | .hbm, ⟨14, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096x512, .bf16⟩
  | .local _ .vmem, ⟨5, _⟩ => ⟨S256x1024, .bf16⟩
  | .local _ .vmem, ⟨6, _⟩ => ⟨S1x512x4096, .bf16⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S256x4096, .f32⟩
  | .local _ .vmem, ⟨14, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CrossRefIdeal.lean ====
abbrev S16384x4096 : Shape := ⟨2, ![16384, 4096]⟩
abbrev S4x4096x512 : Shape := ⟨3, ![4, 4096, 512]⟩
abbrev S256x1024 : Shape := ⟨2, ![256, 1024]⟩
abbrev S4x512x4096 : Shape := ⟨3, ![4, 512, 4096]⟩
abbrev S4096 : Shape := ⟨1, ![4096]⟩
abbrev S1x4096x512 : Shape := ⟨3, ![1, 4096, 512]⟩
abbrev S4096x512 : Shape := ⟨2, ![4096, 512]⟩
abbrev S16384x512 : Shape := ⟨2, ![16384, 512]⟩
abbrev S16384x4x128 : Shape := ⟨3, ![16384, 4, 128]⟩
abbrev S256x512 : Shape := ⟨2, ![256, 512]⟩
abbrev S256x4x128 : Shape := ⟨3, ![256, 4, 128]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩
abbrev S1x512x4096 : Shape := ⟨3, ![1, 512, 4096]⟩
abbrev S512x4096 : Shape := ⟨2, ![512, 4096]⟩
abbrev S16384 : Shape := ⟨1, ![16384]⟩
abbrev S16384x1 : Shape := ⟨2, ![16384, 1]⟩
abbrev S1x4096 : Shape := ⟨2, ![1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4x4096x512, .f32⟩
  | .hbm, ⟨3, _⟩ => ⟨S256x1024, .f32⟩
  | .hbm, ⟨4, _⟩ => ⟨S4x512x4096, .f32⟩
  | .hbm, ⟨5, _⟩ => ⟨S4096, .f32⟩
  | .hbm, ⟨6, _⟩ => ⟨S4096, .f32⟩
  | .hbm, ⟨7, _⟩ => ⟨S1x4096x512, .f32⟩
  | .hbm, ⟨8, _⟩ => ⟨S4096x512, .f32⟩
  | .hbm, ⟨9, _⟩ => ⟨S16384x512, .f32⟩
  | .hbm, ⟨10, _⟩ => ⟨S16384x4x128, .f32⟩
  | .hbm, ⟨11, _⟩ => ⟨S256x512, .f32⟩
  | .hbm, ⟨12, _⟩ => ⟨S256x512, .f32⟩
  | .hbm, ⟨13, _⟩ => ⟨S256x4x128, .f32⟩
  | .hbm, ⟨14, _⟩ => ⟨S256x4x128, .f32⟩
  | .hbm, ⟨15, _⟩ => ⟨S4x16384x256, .f32⟩
  | .hbm, ⟨16, _⟩ => ⟨S_, .f32⟩
  | .hbm, ⟨17, _⟩ => ⟨S4x16384x256, .f32⟩
  | .hbm, ⟨18, _⟩ => ⟨S4x16384x256, .f32⟩
  | .hbm, ⟨19, _⟩ => ⟨S_, .f32⟩
  | .hbm, ⟨20, _⟩ => ⟨S4x16384, .f32⟩
  | .hbm, ⟨21, _⟩ => ⟨S_, .f32⟩
  | .hbm, ⟨22, _⟩ => ⟨S4x16384, .f32⟩
  | .hbm, ⟨23, _⟩ => ⟨S4x16384, .f32⟩
  | .hbm, ⟨24, _⟩ => ⟨S4x16384x1, .f32⟩
  | .hbm, ⟨25, _⟩ => ⟨S4x16384x256, .f32⟩
  | .hbm, ⟨26, _⟩ => ⟨S4x16384x256, .f32⟩
  | .hbm, ⟨27, _⟩ => ⟨S4x16384x256, .f32⟩
  | .hbm, ⟨28, _⟩ => ⟨S_, .f32⟩
  | .hbm, ⟨29, _⟩ => ⟨S4x16384, .f32⟩
  | .hbm, ⟨30, _⟩ => ⟨S4x16384x1, .f32⟩
  | .hbm, ⟨31, _⟩ => ⟨S4x16384x256, .f32⟩
  | .hbm, ⟨32, _⟩ => ⟨S4x16384x256, .f32⟩
  | .hbm, ⟨33, _⟩ => ⟨S4x128x16384, .f32⟩
  | .hbm, ⟨34, _⟩ => ⟨S16384x4x128, .f32⟩
  | .hbm, ⟨35, _⟩ => ⟨S16384x512, .f32⟩
  | .hbm, ⟨36, _⟩ => ⟨S1x512x4096, .f32⟩
  | .hbm, ⟨37, _⟩ => ⟨S512x4096, .f32⟩
  | .hbm, ⟨38, _⟩ => ⟨S16384x4096, .f32⟩
  | .hbm, ⟨39, _⟩ => ⟨S16384x4096, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x4096, .f32⟩
  | .hbm, ⟨51, _⟩ => ⟨S16384x4096, .f32⟩
  | .hbm, ⟨52, _⟩ => ⟨S1x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x4096, .f32⟩
  | .hbm, ⟨68, _⟩ => ⟨S16384x4096, .f32⟩
  | .hbm, ⟨69, _⟩ => ⟨S1x4096, .f32⟩
  | .hbm, ⟨70, _⟩ => ⟨S16384x4096, .f32⟩
  | .hbm, ⟨71, _⟩ => ⟨S16384x4096, .f32⟩
  | .hbm, ⟨72, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Last.lean ====
abbrev S16384x4096 : Shape := ⟨2, ![16384, 4096]⟩
abbrev S4x4096x4096 : Shape := ⟨3, ![4, 4096, 4096]⟩
abbrev S4096 : Shape := ⟨1, ![4096]⟩
abbrev S1x4096 : Shape := ⟨2, ![1, 4096]⟩
abbrev S128x4096 : Shape := ⟨2, ![128, 4096]⟩
abbrev S1x4096x4096 : Shape := ⟨3, ![1, 4096, 4096]⟩
abbrev S4096x4096 : Shape := ⟨2, ![4096, 4096]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S16384x4096, .f32⟩
  | .hbm, ⟨3, _⟩ => ⟨S4096, .f32⟩
  | .hbm, ⟨4, _⟩ => ⟨S16384x4096, .bf16⟩
  | .hbm, ⟨5, _⟩ => ⟨S4x4096x4096, .bf16⟩
  | .hbm, ⟨6, _⟩ => ⟨S1x4096, .f32⟩
  | .hbm, ⟨7, _⟩ => ⟨S16384x4096, .f32⟩
  | .local _ .vmem, ⟨0, _⟩ => ⟨S128x4096, .bf16⟩
  | .local _ .vmem, ⟨1, _⟩ => ⟨S128x4096, .bf16⟩
  | .local _ .vmem, ⟨2, _⟩ => ⟨S1x4096x4096, .bf16⟩
  | .local _ .vmem, ⟨3, _⟩ => ⟨S128x4096, .f32⟩
  | .local _ .vmem, ⟨4, _⟩ => ⟨S128x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastRefIdeal.lean ====
abbrev S16384x4096 : Shape := ⟨2, ![16384, 4096]⟩
abbrev S4x4096x4096 : Shape := ⟨3, ![4, 4096, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S16384x4096, .f32⟩
  | .hbm, ⟨3, _⟩ => ⟨S4096, .f32⟩
  | .hbm, ⟨4, _⟩ => ⟨S1x4096x4096, .f32⟩
  | .hbm, ⟨5, _⟩ => ⟨S4096x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.NormValue.lean ====
/-
  The normalisation in front of the layer: a block of rows is scaled by the reciprocal root of its mean square and by
  the gains, as the reference does with the whole array.
-/
module

public import proofs.«01_k».proof.Defs
public import proofs.«01_k».proof.Proof.Gen.Norm.Frame
public import proofs.«01_k».proof.Proof.Gen.NormIdeal.Value
public import proofs.«01_k».proof.Proof.Gen.NormRefIdeal.Read
public import Idealize.ShloMosaic.Lib.Pipeline.ValueKit
public import Idealize.ShloMosaic.Adequacy

@[expose] public section

set_option maxRecDepth 16384

noncomputable section

namespace Cert.NormIdeal.Layer

open Cert.NormIdeal Cert.NormIdeal.Gen Idealize.ShloMosaic Idealize.ShloMosaic.TcCoe Idealize.SL.Sem
open Idealize.ShloMosaic.Pipeline (Dat)
open Cert.NormRefIdeal.Read

variable (m : (ℓ : Loc nD τ sig) → Buf (Elt Ideal) ℓ) (ρ : Dev nD → PrngReg)

/-- The reference's result as a function of the rows and the gains. -/
abbrev normed (x : FVec Ideal S16384x4096 .f32) (g : FVec Ideal S4096 .f32) :
    FVec Ideal S16384x4096 .bf16 :=
  val_main_v13 (F := Ideal) x g

/-- The block each window stands on: one block of rows per point, the gains whole. -/
theorem idx : ∀ t : Fin cfg0.N, win0_0.index t = ![t.val, 0]
    ∧ win0_1.index t = ![0, 0]
    ∧ win0_2.index t = ![t.val, 0] ∧ t.val < 64 :=
  (by decide +kernel : ∀ t : Fin grid0.N, _)

/-- What the body stores at an element of its block is the reference's element at the place that block has. -/
theorem point (c : Dev nD) (t : Fin cfg0.N) (y : S256x4096.Idx) :
    k0_pay1 (iblk m c 0 t) (iblk m c 1 t) y
      = normed (m ((c : Thread nD τ).loc main_arg0)) (m ((c : Thread nD τ).loc main_arg1)) (((cfg0.win 2).blk t).view.emb y) := by
  pointwise [k0_pay1, normed, val_main_v13, val_main_v12, val_main_v11, val_main_v10, val_main_v9, val_main_v8,
    val_main_v7, val_main_v6, val_main_v5, val_main_cst_1, val_main_v4, val_main_v3, val_main_cst_0, val_main_v2,
    val_main_v1, val_main_cst, val_main_v0]
  blk_point [iblk, V, idx t]

/-- The result array after the run is the reference's. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The printed program runs to its end and leaves its arguments as they were. -/
theorem ends_printed : quiescent_Norm (hNorm := Cert.Norm.Gen.facts) :=
  fun m ρ _ => Cert.Norm.Gen.frame m ρ

/-- So does its text over the reals. -/
theorem ends_ideal : quiescent_NormIdeal (hNormIdeal := Cert.NormIdeal.Gen.facts) :=
  fun m ρ _ => Cert.NormIdeal.Gen.frame m ρ

/-- So does the reference. -/
theorem ends_reference : quiescent_NormRefIdeal (hNormRefIdeal := Cert.NormRefIdeal.Gen.facts) :=
  fun m ρ _ => (θ_run _ _ _).mono
    (fun r h => ⟨fun c => (h c).2, Idealize.ShloMosaic.sem_eq_zero_of_no_sems (by decide) r.2⟩)
    (Cert.NormRefIdeal.Value.run (F := Ideal) m ρ)

/-- The text over the reals is the printed one, operation by operation. -/
theorem keeps : preserves_Norm_NormIdeal := trivial

/-- The kernel's call and the reference end with the same result. -/
theorem equals : algebraic_NormIdeal_NormRefIdeal (hNormIdeal := Cert.NormIdeal.Gen.facts) (hNormRefIdeal := Cert.NormRefIdeal.Gen.facts) := by
  intro m ρ m' ρ' _ hag
  refine ⟨fun c => normed (m ((c : Thread nD τ).loc main_arg0)) (m ((c : Thread nD τ).loc main_arg1)),
    (θ_run _ _ _).mono (fun _ h c => ⟨(h c).1.trans (final m c), (h c).2⟩) (Cert.NormIdeal.Value.run_blocks m ρ),
    (θ_run _ _ _).mono (fun _ h c => ⟨(h c).1.trans ?_, (h c).2⟩) (Cert.NormRefIdeal.Value.run m' ρ')⟩
  · beta_reduce
    rw [← (hag c).1, ← (hag c).2]
    exact val_main_v13_eq ..

end Cert.NormIdeal.Layer

end
-- ==== Proof.UpValue.lean ====
/-
  The gated product of the feed-forward: every block the kernel stores is the block of
  `silu (a @ W_gate) * (a @ W_up)` that the reference computes for the whole array.
-/
module

public import proofs.«01_k».proof.Defs
public import proofs.«01_k».proof.Proof.Gen.Up.Frame
public import proofs.«01_k».proof.Proof.Gen.UpIdeal.Value
public import proofs.«01_k».proof.Proof.Gen.UpRefIdeal.Read
public import Idealize.ShloMosaic.Lib.Pipeline.ValueKit
public import Idealize.ShloMosaic.Adequacy

@[expose] public section

set_option maxRecDepth 16384

noncomputable section

namespace Cert.UpIdeal.Layer

open Cert.UpIdeal Cert.UpIdeal.Gen Idealize.ShloMosaic Idealize.ShloMosaic.TcCoe Idealize.SL.Sem
open Idealize.ShloMosaic.Pipeline (Dat)
open Cert.UpRefIdeal.Read

variable (m : (ℓ : Loc nD τ sig) → Buf (Elt Ideal) ℓ) (ρ : Dev nD → PrngReg)

/-- The reference's result as a function of the hidden states and the stacked weights. -/
abbrev gated (a : FVec Ideal S16384x4096 .f32) (w : FVec Ideal S4x4096x8192 .f32) : FVec Ideal S16384x4096 .bf16 :=
  val_main_v7 (F := Ideal) a w

/-- Which block each window stands on at a grid point: eight column blocks per row block, the second weight
    window eight blocks to the right of the first. -/
theorem idx : ∀ t : Fin cfg0.N, win0_0.index t = ![t.val / 8, 0] ∧ win0_1.index t = ![0, 0, t.val % 8]
    ∧ win0_2.index t = ![0, 0, t.val % 8 + 8] ∧ win0_3.index t = ![t.val / 8, t.val % 8] :=
  (by decide +kernel : ∀ t : Fin grid0.N, _)

/-- What the body stores at an element of its block is the reference's element at the place that block has. -/
theorem point (c : Dev nD) (t : Fin cfg0.N) (y : S1024x512.Idx) :
    k0_pay1 (iblk m c 0 t) (iblk m c 1 t) (iblk m c 2 t) y
      = gated (m ((c : Thread nD τ).loc main_arg0)) (m ((c : Thread nD τ).loc main_arg1)) (((cfg0.win 3).blk t).view.emb y) := by
  pointwise [k0_pay1, gated, val_main_v7, val_main_v6, val_main_v5, val_main_v4, val_main_v3, val_main_v2, val_main_v1,
    val_main_v0, val_main_call0_v5, val_main_call0_v4, val_main_call0_v3, val_main_call0_v2, val_main_call0_v1,
    val_main_call0_v0, val_main_call0_cst, val_main_call0_cst_0, Ideal.logistic]
  blk_point [iblk, V, idx t]

/-- The result array after the run is the reference's. -/
theorem final (c : Dev nD) : (dats m 0 c).arrAt 3 cfg0.N
    = gated (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The printed program runs to its end and leaves its arguments as they were. -/
theorem ends_printed : quiescent_Up (hUp := Cert.Up.Gen.facts) :=
  fun m ρ _ => Cert.Up.Gen.frame m ρ

/-- So does its text over the reals. -/
theorem ends_ideal : quiescent_UpIdeal (hUpIdeal := Cert.UpIdeal.Gen.facts) :=
  fun m ρ _ => Cert.UpIdeal.Gen.frame m ρ

/-- So does the reference. -/
theorem ends_reference : quiescent_UpRefIdeal (hUpRefIdeal := Cert.UpRefIdeal.Gen.facts) :=
  fun m ρ _ => (θ_run _ _ _).mono
    (fun r h => ⟨fun c => (h c).2, Idealize.ShloMosaic.sem_eq_zero_of_no_sems (by decide) r.2⟩)
    (Cert.UpRefIdeal.Value.run (F := Ideal) m ρ)

/-- The text over the reals is the printed one, operation by operation. -/
theorem keeps : preserves_Up_UpIdeal := trivial

/-- The kernel's call and the reference end with the same result. -/
theorem equals : algebraic_UpIdeal_UpRefIdeal (hUpIdeal := Cert.UpIdeal.Gen.facts) (hUpRefIdeal := Cert.UpRefIdeal.Gen.facts) := by
  intro m ρ m' ρ' _ hag
  refine ⟨fun c => gated (m ((c : Thread nD τ).loc main_arg0)) (m ((c : Thread nD τ).loc main_arg1)),
    (θ_run _ _ _).mono (fun _ h c => ⟨(h c).1.trans (final m c), (h c).2⟩) (Cert.UpIdeal.Value.run_blocks m ρ),
    (θ_run _ _ _).mono (fun _ h c => ⟨(h c).1.trans ?_, (h c).2⟩) (Cert.UpRefIdeal.Value.run m' ρ')⟩
  · beta_reduce
    rw [← (hag c).1, ← (hag c).2]
    exact val_main_v7_eq ..

end Cert.UpIdeal.Layer

end
-- ==== Proof.DownValue.lean ====
/-
  The down projection of a feed-forward. A point multiplies its own row block into one of two
  scratch buffers and finishes the row block of the point before from the other: the residual sum, and that sum normalised
  for the part that follows. What is written back at a point are the reference's two results on the block before.
-/
module

public import proofs.«01_k».proof.Defs
public import proofs.«01_k».proof.Proof.Gen.Down.Frame
public import proofs.«01_k».proof.Proof.Gen.DownIdeal.Value
public import proofs.«01_k».proof.Proof.Gen.DownRefIdeal.Read
public import Idealize.ShloMosaic.Lib.Pipeline.ValueKit
public import Idealize.ShloMosaic.Adequacy

@[expose] public section

set_option maxRecDepth 16384

noncomputable section

namespace Cert.DownIdeal.Layer

open Cert.DownIdeal Cert.DownIdeal.Gen Idealize.ShloMosaic Idealize.ShloMosaic.TcCoe Idealize.SL.Sem
open Idealize.ShloMosaic.Pipeline (Dat)
open Cert.DownRefIdeal.Read

variable (m : (ℓ : Loc nD τ sig) → Buf (Elt Ideal) ℓ) (ρ : Dev nD → PrngReg)

/-- The block each window stands on: the product runs one row block ahead of the residual and the results, and stays
    on the last row block at the last point. -/
theorem idx : ∀ t : Fin cfg0.N, win0_0.index t = ![min t.val 127, 0] ∧ win0_1.index t = ![0, 0, 0]
    ∧ win0_2.index t = ![t.val - 1, 0] ∧ win0_3.index t = ![0, 0] ∧ win0_4.index t = ![0, 0]
    ∧ win0_5.index t = ![t.val - 1, 0] ∧ win0_6.index t = ![t.val - 1, 0] ∧ t.val < 129 :=
  (by decide +kernel : ∀ t : Fin grid0.N, _)

/-- The first point writes nothing back: its block is the second point's too. -/
theorem flush_pos : ∀ t : Fin cfg0.N, ((cfg0.win 5).flush t = true → t.val ≠ 0) ∧ ((cfg0.win 6).flush t = true → t.val ≠ 0) :=
  (by decide +kernel : ∀ t : Fin grid0.N, (win0_5.flush t = true → t.val ≠ 0) ∧ (win0_6.flush t = true → t.val ≠ 0))

/-- After an even point the first scratch buffer holds the product of that point's row block. -/
theorem scratch_even (c : Dev nD) (t : Fin cfg0.N) (h : t.val % 2 = 0) :
    (outsAt0 m c t.val t.isLt).2.2.1 = k0_pay4 (iblk m c 0 t) (iblk m c 1 t) := by
  have hN := (idx t).2.2.2.2.2.2.2
  by_cases h0 : t.val % 129 = 0
  · rw [outsAt0_A m c t h0 h (by omega)]; frame_out
  · rw [outsAt0_C m c t h0 h (by omega)]; frame_out

/-- After an odd point the second one does. -/
theorem scratch_odd (c : Dev nD) (t : Fin cfg0.N) (h : t.val % 2 = 1) :
    (outsAt0 m c t.val t.isLt).2.2.2 = k0_pay4 (iblk m c 0 t) (iblk m c 1 t) := by
  have hN := (idx t).2.2.2.2.2.2.2
  rw [outsAt0_B m c t (by omega) (by omega) h]; frame_out
  rfl

/-- The residual sum a point leaves, as a function of the residual block, the product and the first gains. -/
abbrev sumOf (h y : FVec Ideal S128x4096 .f32) (g : FVec Ideal S1x4096 .f32) : FVec Ideal S128x4096 .f32 := k0_pay5 h y g

/-- The normalised sum, with the second gains. -/
abbrev normOf (h y : FVec Ideal S128x4096 .f32) (g g' : FVec Ideal S1x4096 .f32) : FVec Ideal S128x4096 .bf16 :=
  k0_pay2 (k0_pay5 h y g) (k0_pay6 g') (k0_pay7 h y g) k0_pay8

/-- The closing arithmetic is the same at odd and at even points. -/
theorem sum_eq : k0_pay10 (F := Ideal) = k0_pay5 := rfl

/-- The same for the normalised sum. -/
theorem norm_eq (h y : FVec Ideal S128x4096 .f32) (g g' : FVec Ideal S1x4096 .f32) :
    k0_pay3 (F := Ideal) (k0_pay10 h y g) (k0_pay11 g') (k0_pay12 h y g) k0_pay13 = normOf h y g g' := rfl

/-- What a later point leaves in the first result's buffer: the end of the row block whose product the point before left. -/
theorem sum_at (c : Dev nD) (t u : Fin cfg0.N) (h : t.val = u.val + 1) :
    (outsAt0 m c t.val t.isLt).1 = sumOf (iblk m c 2 t) (k0_pay4 (iblk m c 0 u) (iblk m c 1 u)) (iblk m c 3 t) := by
  have hN := (idx t).2.2.2.2.2.2.2
  have hu : t.val - 1 = u.val := by omega
  by_cases h1 : t.val % 2 = 1
  · rw [outsAt0_B m c t (by omega) (by omega) h1]; frame_out
    simp only [hu]
    rw [scratch_even m c u (by omega), Memref.IsWhole.read_unread (Memref.isWhole_whole cc0_scratch0)]
    rfl
  · rw [outsAt0_C m c t (by omega) (by omega) (by omega)]; frame_out
    simp only [hu]
    rw [scratch_odd m c u (by omega), Memref.IsWhole.read_unread (Memref.isWhole_whole cc0_scratch1)]

/-- What it leaves in the second result's buffer. -/
theorem norm_at (c : Dev nD) (t u : Fin cfg0.N) (h : t.val = u.val + 1) :
    (outsAt0 m c t.val t.isLt).2.1
      = normOf (iblk m c 2 t) (k0_pay4 (iblk m c 0 u) (iblk m c 1 u)) (iblk m c 3 t) (iblk m c 4 t) := by
  have hN := (idx t).2.2.2.2.2.2.2
  have hu : t.val - 1 = u.val := by omega
  by_cases h1 : t.val % 2 = 1
  · rw [outsAt0_B m c t (by omega) (by omega) h1]; frame_out
    simp only [hu]
    rw [scratch_even m c u (by omega), Memref.IsWhole.read_unread (Memref.isWhole_whole cc0_scratch0)]
    rfl
  · rw [outsAt0_C m c t (by omega) (by omega) (by omega)]; frame_out
    simp only [hu]
    rw [scratch_odd m c u (by omega), Memref.IsWhole.read_unread (Memref.isWhole_whole cc0_scratch1)]

/-- The reference's residual sum as a function of its arrays. -/
abbrev stream (x : FVec Ideal S16384x4096 .f32) (w : FVec Ideal S4x4096x4096 .f32) (h : FVec Ideal S16384x4096 .f32) (gp : FVec Ideal S4096 .f32) :
    FVec Ideal S16384x4096 .f32 :=
  val_main_v18 (F := Ideal) x w h gp

/-- The reference's normalised sum as a function of its arrays. -/
abbrev normed (x : FVec Ideal S16384x4096 .f32) (w : FVec Ideal S4x4096x4096 .f32) (h : FVec Ideal S16384x4096 .f32) (gp : FVec Ideal S4096 .f32) (gn : FVec Ideal S4096 .f32) :
    FVec Ideal S16384x4096 .bf16 :=
  val_main_v32 (F := Ideal) x w h gp gn

/-- The residual sum written back at an element of a block is the reference's element at the place that block has. -/
theorem stream_point (c : Dev nD) (t u : Fin cfg0.N) (h : t.val = u.val + 1) (y : S128x4096.Idx) :
    sumOf (iblk m c 2 t) (k0_pay4 (iblk m c 0 u) (iblk m c 1 u)) (iblk m c 3 t) y
      = stream (m ((c : Thread nD τ).loc main_arg0)) (m ((c : Thread nD τ).loc main_arg1)) (m ((c : Thread nD τ).loc main_arg2)) (m ((c : Thread nD τ).loc main_arg3))
          (((cfg0.win 5).blk t).view.emb y) := by
  have hN := (idx t).2.2.2.2.2.2.2
  have hm : min u.val 127 = t.val - 1 := by omega
  pointwise [sumOf, k0_pay5, k0_pay4, stream, val_main_v18, val_main_v17, val_main_v16, val_main_cst_2, val_main_v15,
    val_main_v14, val_main_v13, val_main_v12, val_main_v11, val_main_v10, val_main_v9, val_main_v8, val_main_cst_1,
    val_main_v7, val_main_v6, val_main_cst_0, val_main_v5, val_main_v4, val_main_cst, val_main_v3, val_main_v2,
    val_main_v1, val_main_v0]
  blk_point [iblk, V, idx t, idx u, hm]

/-- The array of residual sums after the run is the reference's. -/
theorem stream_final (c : Dev nD) : (dats m 0 c).arrAt 5 cfg0.N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have h0 := (flush_pos t).1 hf
  rw [after0_5, sum_at m c t ⟨t.val - 1, Nat.lt_of_le_of_lt (Nat.sub_le _ _) t.isLt⟩ (by show t.val = t.val - 1 + 1; omega)]
  exact stream_point m c t _ (by show t.val = t.val - 1 + 1; omega) y

/-- The normalised sum written back at an element of a block is the reference's element at the place that block has. -/
theorem normed_point (c : Dev nD) (t u : Fin cfg0.N) (h : t.val = u.val + 1) (y : S128x4096.Idx) :
    normOf (iblk m c 2 t) (k0_pay4 (iblk m c 0 u) (iblk m c 1 u)) (iblk m c 3 t) (iblk m c 4 t) y
      = normed (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 6).blk t).view.emb y) := by
  have hN := (idx t).2.2.2.2.2.2.2
  have hm : min u.val 127 = t.val - 1 := by omega
  pointwise [normOf, k0_pay2, k0_pay7, k0_pay8, k0_pay6, k0_pay5, k0_pay4, normed, val_main_v32, val_main_v31,
    val_main_v30, val_main_v29, val_main_v28, val_main_v27, val_main_v26, val_main_v25, val_main_v24, val_main_cst_5,
    val_main_v23, val_main_v22, val_main_cst_4, val_main_v21, val_main_v20, val_main_cst_3, val_main_v19,
    val_main_v18, val_main_v17, val_main_v16, val_main_cst_2, val_main_v15, val_main_v14, val_main_v13, val_main_v12,
    val_main_v11, val_main_v10, val_main_v9, val_main_v8, val_main_cst_1, val_main_v7, val_main_v6, val_main_cst_0,
    val_main_v5, val_main_v4, val_main_cst, val_main_v3, val_main_v2, val_main_v1, val_main_v0]
  blk_point [iblk, V, idx t, idx u, hm]

/-- The array of normalised sums after the run is the reference's. -/
theorem normed_final (c : Dev nD) : (dats m 0 c).arrAt 6 cfg0.N
    = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  have h0 := (flush_pos t).2 hf
  rw [after0_6, norm_at m c t ⟨t.val - 1, Nat.lt_of_le_of_lt (Nat.sub_le _ _) t.isLt⟩ (by show t.val = t.val - 1 + 1; omega)]
  exact normed_point m c t _ (by show t.val = t.val - 1 + 1; omega) y

/-- The printed program runs to its end and leaves its arguments as they were. -/
theorem ends_printed : quiescent_Down (hDown := Cert.Down.Gen.facts) :=
  fun m ρ _ => Cert.Down.Gen.frame m ρ

/-- So does its text over the reals. -/
theorem ends_ideal : quiescent_DownIdeal (hDownIdeal := Cert.DownIdeal.Gen.facts) :=
  fun m ρ _ => Cert.DownIdeal.Gen.frame m ρ

/-- So does the reference. -/
theorem ends_reference : quiescent_DownRefIdeal (hDownRefIdeal := Cert.DownRefIdeal.Gen.facts) :=
  fun m ρ _ => (θ_run _ _ _).mono
    (fun r h => ⟨fun c => (h c).2.2, Idealize.ShloMosaic.sem_eq_zero_of_no_sems (by decide) r.2⟩)
    (Cert.DownRefIdeal.Value.run (F := Ideal) m ρ)

/-- The text over the reals is the printed one, operation by operation. -/
theorem keeps : preserves_Down_DownIdeal := trivial

/-- The kernel's call and the reference end with the same results. -/
theorem equals : algebraic_DownIdeal_DownRefIdeal (hDownIdeal := Cert.DownIdeal.Gen.facts) (hDownRefIdeal := Cert.DownRefIdeal.Gen.facts) := by
  intro m ρ m' ρ' _ hag
  refine ⟨fun c => stream (m ((c : Thread nD τ).loc main_arg0)) (m ((c : Thread nD τ).loc main_arg1)) (m ((c : Thread nD τ).loc main_arg2)) (m ((c : Thread nD τ).loc main_arg3)),
    fun c => normed (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun _ h c => ⟨(h c).1.trans (stream_final m c), (h c).2.1.trans (normed_final m c), (h c).2.2⟩) (Cert.DownIdeal.Value.run_blocks m ρ),
    (θ_run _ _ _).mono (fun _ h c => ⟨(h c).1.trans ?_, (h c).2.1.trans ?_, (h c).2.2⟩) (Cert.DownRefIdeal.Value.run m' ρ')⟩
  · beta_reduce
    rw [← (hag c).1, ← (hag c).2.1, ← (hag c).2.2.1, ← (hag c).2.2.2.1]
    exact val_main_v18_eq ..
  · beta_reduce
    rw [← (hag c).1, ← (hag c).2.1, ← (hag c).2.2.1, ← (hag c).2.2.2.1, ← (hag c).2.2.2.2]
    exact val_main_v32_eq m' c

end Cert.DownIdeal.Layer

end
-- ==== Proof.QkvValue.lean ====
/-
  The columns of the combined projection that give the queries, keys and values: every block the kernel stores is the
  reference's product restricted to those columns.
-/
module

public import proofs.«01_k».proof.Defs
public import proofs.«01_k».proof.Proof.Gen.Qkv.Frame
public import proofs.«01_k».proof.Proof.Gen.QkvIdeal.Value
public import proofs.«01_k».proof.Proof.Gen.QkvRefIdeal.Read
public import Idealize.ShloMosaic.Lib.Pipeline.ValueKit
public import Idealize.ShloMosaic.Adequacy

@[expose] public section

set_option maxRecDepth 16384

noncomputable section

namespace Cert.QkvIdeal.Layer

open Cert.QkvIdeal Cert.QkvIdeal.Gen Idealize.ShloMosaic Idealize.ShloMosaic.TcCoe Idealize.SL.Sem
open Idealize.ShloMosaic.Pipeline (Dat)
open Cert.QkvRefIdeal.Read

variable (m : (ℓ : Loc nD τ sig) → Buf (Elt Ideal) ℓ) (ρ : Dev nD → PrngReg)

/-- The reference's result as a function of the normalised rows and the stacked weights. -/
abbrev qkv (u : FVec Ideal S16384x4096 .f32) (w : FVec Ideal S4x4096x12800 .f32) :
    FVec Ideal S16384x2560 .f32 :=
  val_main_v3 (F := Ideal) u w

/-- The block each window stands on: 5 column blocks per row block; the weight window is placed by element, from
    column 0 on. -/
theorem idx : ∀ t : Fin cfg0.N, win0_0.index t = ![t.val / 5, 0]
    ∧ win0_1.index t = ![0, 0, t.val % 5 * 512]
    ∧ win0_2.index t = ![t.val / 5, t.val % 5] ∧ t.val < 80 :=
  (by decide +kernel : ∀ t : Fin grid0.N, _)

/-- An element of the weight window lies at the window's offset plus its own place. -/
theorem place (t : Fin cfg0.N) (y : S1x4096x512.Idx) (a : Fin 3) :
    ((((View.whole main_v1).slice (win0_1.rect t)).emb y a : Fin _) : ℕ) = win0_1.index t a + (y a).val :=
  Pipeline.Window.rect_emb_val_off win0_1 t y a

/-- What the body stores at an element of its block is the reference's element at the place that block has. -/
theorem point (c : Dev nD) (t : Fin cfg0.N) (y : S1024x512.Idx) :
    k0_pay1 (iblk m c 0 t) (iblk m c 1 t) y
      = qkv (m ((c : Thread nD τ).loc main_arg0)) (m ((c : Thread nD τ).loc main_arg1)) (((cfg0.win 2).blk t).view.emb y) := by
  pointwise [k0_pay1, qkv, val_main_v3, val_main_v2, val_main_v1, val_main_v0]
  blk_point [iblk, V, idx t]
  all_goals
    refine (place t _ _).trans ?_
    rw [(idx t).2.1]
    simp <;> omega

/-- The result array after the run is the reference's. -/
theorem final (c : Dev nD) : (dats m 0 c).arrAt 2 cfg0.N
    = qkv (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The printed program runs to its end and leaves its arguments as they were. -/
theorem ends_printed : quiescent_Qkv (hQkv := Cert.Qkv.Gen.facts) :=
  fun m ρ _ => Cert.Qkv.Gen.frame m ρ

/-- So does its text over the reals. -/
theorem ends_ideal : quiescent_QkvIdeal (hQkvIdeal := Cert.QkvIdeal.Gen.facts) :=
  fun m ρ _ => Cert.QkvIdeal.Gen.frame m ρ

/-- So does the reference. -/
theorem ends_reference : quiescent_QkvRefIdeal (hQkvRefIdeal := Cert.QkvRefIdeal.Gen.facts) :=
  fun m ρ _ => (θ_run _ _ _).mono
    (fun r h => ⟨fun c => (h c).2, Idealize.ShloMosaic.sem_eq_zero_of_no_sems (by decide) r.2⟩)
    (Cert.QkvRefIdeal.Value.run (F := Ideal) m ρ)

/-- The text over the reals is the printed one, operation by operation. -/
theorem keeps : preserves_Qkv_QkvIdeal := trivial

/-- The kernel's call and the reference end with the same result. -/
theorem equals : algebraic_QkvIdeal_QkvRefIdeal (hQkvIdeal := Cert.QkvIdeal.Gen.facts) (hQkvRefIdeal := Cert.QkvRefIdeal.Gen.facts) := by
  intro m ρ m' ρ' _ hag
  refine ⟨fun c => qkv (m ((c : Thread nD τ).loc main_arg0)) (m ((c : Thread nD τ).loc main_arg1)),
    (θ_run _ _ _).mono (fun _ h c => ⟨(h c).1.trans (final m c), (h c).2⟩) (Cert.QkvIdeal.Value.run_blocks m ρ),
    (θ_run _ _ _).mono (fun _ h c => ⟨(h c).1.trans ?_, (h c).2⟩) (Cert.QkvRefIdeal.Value.run m' ρ')⟩
  · beta_reduce
    rw [← (hag c).1, ← (hag c).2]
    exact val_main_v3_eq ..

end Cert.QkvIdeal.Layer

end
-- ==== Proof.SsmInValue.lean ====
/-
  The columns of the combined projection that give the input of the recurrence: every block the kernel stores is the
  reference's product restricted to those columns.
-/
module

public import proofs.«01_k».proof.Defs
public import proofs.«01_k».proof.Proof.Gen.SsmIn.Frame
public import proofs.«01_k».proof.Proof.Gen.SsmInIdeal.Value
public import proofs.«01_k».proof.Proof.Gen.SsmInRefIdeal.Read
public import Idealize.ShloMosaic.Lib.Pipeline.ValueKit
public import Idealize.ShloMosaic.Adequacy

@[expose] public section

set_option maxRecDepth 16384

noncomputable section

namespace Cert.SsmInIdeal.Layer

open Cert.SsmInIdeal Cert.SsmInIdeal.Gen Idealize.ShloMosaic Idealize.ShloMosaic.TcCoe Idealize.SL.Sem
open Idealize.ShloMosaic.Pipeline (Dat)
open Cert.SsmInRefIdeal.Read

variable (m : (ℓ : Loc nD τ sig) → Buf (Elt Ideal) ℓ) (ρ : Dev nD → PrngReg)

/-- The reference's result as a function of the normalised rows and the stacked weights. -/
abbrev ssmIn (u : FVec Ideal S16384x4096 .f32) (w : FVec Ideal S4x4096x12800 .f32) :
    FVec Ideal S16384x2048 .f32 :=
  val_main_v3 (F := Ideal) u w

/-- The block each window stands on: 2 column blocks per row block; the weight window is placed by element, from
    column 2560 on. -/
theorem idx : ∀ t : Fin cfg0.N, win0_0.index t = ![t.val / 2, 0]
    ∧ win0_1.index t = ![0, 0, 2560 + t.val % 2 * 1024]
    ∧ win0_2.index t = ![t.val / 2, t.val % 2] ∧ t.val < 32 :=
  (by decide +kernel : ∀ t : Fin grid0.N, _)

/-- An element of the weight window lies at the window's offset plus its own place. -/
theorem place (t : Fin cfg0.N) (y : S1x4096x1024.Idx) (a : Fin 3) :
    ((((View.whole main_v1).slice (win0_1.rect t)).emb y a : Fin _) : ℕ) = win0_1.index t a + (y a).val :=
  Pipeline.Window.rect_emb_val_off win0_1 t y a

/-- What the body stores at an element of its block is the reference's element at the place that block has. -/
theorem point (c : Dev nD) (t : Fin cfg0.N) (y : S1024x1024.Idx) :
    k0_pay1 (iblk m c 0 t) (iblk m c 1 t) y
      = ssmIn (m ((c : Thread nD τ).loc main_arg0)) (m ((c : Thread nD τ).loc main_arg1)) (((cfg0.win 2).blk t).view.emb y) := by
  pointwise [k0_pay1, ssmIn, val_main_v3, val_main_v2, val_main_v1, val_main_v0]
  blk_point [iblk, V, idx t]
  all_goals
    refine (place t _ _).trans ?_
    rw [(idx t).2.1]
    simp <;> omega

/-- The result array after the run is the reference's. -/
theorem final (c : Dev nD) : (dats m 0 c).arrAt 2 cfg0.N
    = ssmIn (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The printed program runs to its end and leaves its arguments as they were. -/
theorem ends_printed : quiescent_SsmIn (hSsmIn := Cert.SsmIn.Gen.facts) :=
  fun m ρ _ => Cert.SsmIn.Gen.frame m ρ

/-- So does its text over the reals. -/
theorem ends_ideal : quiescent_SsmInIdeal (hSsmInIdeal := Cert.SsmInIdeal.Gen.facts) :=
  fun m ρ _ => Cert.SsmInIdeal.Gen.frame m ρ

/-- So does the reference. -/
theorem ends_reference : quiescent_SsmInRefIdeal (hSsmInRefIdeal := Cert.SsmInRefIdeal.Gen.facts) :=
  fun m ρ _ => (θ_run _ _ _).mono
    (fun r h => ⟨fun c => (h c).2, Idealize.ShloMosaic.sem_eq_zero_of_no_sems (by decide) r.2⟩)
    (Cert.SsmInRefIdeal.Value.run (F := Ideal) m ρ)

/-- The text over the reals is the printed one, operation by operation. -/
theorem keeps : preserves_SsmIn_SsmInIdeal := trivial

/-- The kernel's call and the reference end with the same result. -/
theorem equals : algebraic_SsmInIdeal_SsmInRefIdeal (hSsmInIdeal := Cert.SsmInIdeal.Gen.facts) (hSsmInRefIdeal := Cert.SsmInRefIdeal.Gen.facts) := by
  intro m ρ m' ρ' _ hag
  refine ⟨fun c => ssmIn (m ((c : Thread nD τ).loc main_arg0)) (m ((c : Thread nD τ).loc main_arg1)),
    (θ_run _ _ _).mono (fun _ h c => ⟨(h c).1.trans (final m c), (h c).2⟩) (Cert.SsmInIdeal.Value.run_blocks m ρ),
    (θ_run _ _ _).mono (fun _ h c => ⟨(h c).1.trans ?_, (h c).2⟩) (Cert.SsmInRefIdeal.Value.run m' ρ')⟩
  · beta_reduce
    rw [← (hag c).1, ← (hag c).2]
    exact val_main_v3_eq ..

end Cert.SsmInIdeal.Layer

end
-- ==== Proof.GatesValue.lean ====
/-
  The columns of the combined projection that give the two gates: every block the kernel stores is the
  reference's product restricted to those columns.
-/
module

public import proofs.«01_k».proof.Defs
public import proofs.«01_k».proof.Proof.Gen.Gates.Frame
public import proofs.«01_k».proof.Proof.Gen.GatesIdeal.Value
public import proofs.«01_k».proof.Proof.Gen.GatesRefIdeal.Read
public import Idealize.ShloMosaic.Lib.Pipeline.ValueKit
public import Idealize.ShloMosaic.Adequacy

@[expose] public section

set_option maxRecDepth 16384

noncomputable section

namespace Cert.GatesIdeal.Layer

open Cert.GatesIdeal Cert.GatesIdeal.Gen Idealize.ShloMosaic Idealize.ShloMosaic.TcCoe Idealize.SL.Sem
open Idealize.ShloMosaic.Pipeline (Dat)
open Cert.GatesRefIdeal.Read

variable (m : (ℓ : Loc nD τ sig) → Buf (Elt Ideal) ℓ) (ρ : Dev nD → PrngReg)

/-- The reference's result as a function of the normalised rows and the stacked weights. -/
abbrev gates (u : FVec Ideal S16384x4096 .f32) (w : FVec Ideal S4x4096x12800 .f32) :
    FVec Ideal S16384x8192 .f32 :=
  val_main_v3 (F := Ideal) u w

/-- The block each window stands on: 8 column blocks per row block; the weight window is placed by element, from
    column 4608 on. -/
theorem idx : ∀ t : Fin cfg0.N, win0_0.index t = ![t.val / 8, 0]
    ∧ win0_1.index t = ![0, 0, 4608 + t.val % 8 * 1024]
    ∧ win0_2.index t = ![t.val / 8, t.val % 8] ∧ t.val < 128 :=
  (by decide +kernel : ∀ t : Fin grid0.N, _)

/-- An element of the weight window lies at the window's offset plus its own place. -/
theorem place (t : Fin cfg0.N) (y : S1x4096x1024.Idx) (a : Fin 3) :
    ((((View.whole main_v1).slice (win0_1.rect t)).emb y a : Fin _) : ℕ) = win0_1.index t a + (y a).val :=
  Pipeline.Window.rect_emb_val_off win0_1 t y a

/-- What the body stores at an element of its block is the reference's element at the place that block has. -/
theorem point (c : Dev nD) (t : Fin cfg0.N) (y : S1024x1024.Idx) :
    k0_pay1 (iblk m c 0 t) (iblk m c 1 t) y
      = gates (m ((c : Thread nD τ).loc main_arg0)) (m ((c : Thread nD τ).loc main_arg1)) (((cfg0.win 2).blk t).view.emb y) := by
  pointwise [k0_pay1, gates, val_main_v3, val_main_v2, val_main_v1, val_main_v0]
  blk_point [iblk, V, idx t]
  all_goals
    refine (place t _ _).trans ?_
    rw [(idx t).2.1]
    simp <;> omega

/-- The result array after the run is the reference's. -/
theorem final (c : Dev nD) : (dats m 0 c).arrAt 2 cfg0.N
    = gates (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The printed program runs to its end and leaves its arguments as they were. -/
theorem ends_printed : quiescent_Gates (hGates := Cert.Gates.Gen.facts) :=
  fun m ρ _ => Cert.Gates.Gen.frame m ρ

/-- So does its text over the reals. -/
theorem ends_ideal : quiescent_GatesIdeal (hGatesIdeal := Cert.GatesIdeal.Gen.facts) :=
  fun m ρ _ => Cert.GatesIdeal.Gen.frame m ρ

/-- So does the reference. -/
theorem ends_reference : quiescent_GatesRefIdeal (hGatesRefIdeal := Cert.GatesRefIdeal.Gen.facts) :=
  fun m ρ _ => (θ_run _ _ _).mono
    (fun r h => ⟨fun c => (h c).2, Idealize.ShloMosaic.sem_eq_zero_of_no_sems (by decide) r.2⟩)
    (Cert.GatesRefIdeal.Value.run (F := Ideal) m ρ)

/-- The text over the reals is the printed one, operation by operation. -/
theorem keeps : preserves_Gates_GatesIdeal := trivial

/-- The kernel's call and the reference end with the same result. -/
theorem equals : algebraic_GatesIdeal_GatesRefIdeal (hGatesIdeal := Cert.GatesIdeal.Gen.facts) (hGatesRefIdeal := Cert.GatesRefIdeal.Gen.facts) := by
  intro m ρ m' ρ' _ hag
  refine ⟨fun c => gates (m ((c : Thread nD τ).loc main_arg0)) (m ((c : Thread nD τ).loc main_arg1)),
    (θ_run _ _ _).mono (fun _ h c => ⟨(h c).1.trans (final m c), (h c).2⟩) (Cert.GatesIdeal.Value.run_blocks m ρ),
    (θ_run _ _ _).mono (fun _ h c => ⟨(h c).1.trans ?_, (h c).2⟩) (Cert.GatesRefIdeal.Value.run m' ρ')⟩
  · beta_reduce
    rw [← (hag c).1, ← (hag c).2]
    exact val_main_v3_eq ..

end Cert.GatesIdeal.Layer

end
-- ==== Proof.SwaSpec.lean ====
/-
  The banded attention, query by query: the rotation of one head's row, the scores of one query against its window, the
  softmax with a sink, and the fact that what a masked position holds does not matter.
-/
module

public import Idealize.ShloMosaic.Lib.Pipeline.ValueKit

@[expose] public section

noncomputable section

namespace Cert.SwaIdeal.Layer

open Idealize.ShloMosaic

/-- The score of one query against the `n`-th key of its window, scaled by the reciprocal root of the head's width. -/
def score (q : Fin 128 → EReal) (k : Fin 256 → Fin 128 → EReal) (n : Fin 256) : EReal :=
  (∑ d, k n d * q d) * Ideal.ofBits FTy.f32 0x3DB504F3#32

/-- The score where the query may look, minus infinity elsewhere. -/
def seen (q : Fin 128 → EReal) (k : Fin 256 → Fin 128 → EReal) (ok : Fin 256 → BitVec 1) (n : Fin 256) : EReal :=
  if ok n = 1#1 then score q k n else ⊥

/-- The largest score a query sees, the head's sink included. -/
def top (q : Fin 128 → EReal) (k : Fin 256 → Fin 128 → EReal) (ok : Fin 256 → BitVec 1) (s : EReal) : EReal :=
  max (Finset.fold max (Ideal.ofBits FTy.f32 0xFF800000#32) (seen q k ok) Finset.univ) s

/-- What the weights of a query are divided by: their sum, the sink's share included. -/
def total (q : Fin 128 → EReal) (k : Fin 256 → Fin 128 → EReal) (ok : Fin 256 → BitVec 1) (s : EReal) : EReal :=
  (∑ n, Ideal.exp (seen q k ok n - top q k ok s)) + Ideal.exp (s - top q k ok s)

/-- One column of one head: the window's values averaged with the softmax of the query's scores. -/
def attend (q : Fin 128 → EReal) (k : Fin 256 → Fin 128 → EReal) (v : Fin 256 → EReal) (ok : Fin 256 → BitVec 1) (s : EReal) :
    EReal :=
  ∑ n, Ideal.div (Ideal.exp (seen q k ok n - top q k ok s)) (total q k ok s) * v n

/-- One row of a head after the rotation of its first 32 lanes: the first 16 against the next 16, by the row's angles. -/
def turned (x : Fin 128 → EReal) (cs sn : Fin 16 → EReal) (d : Fin 128) : EReal :=
  if h : d.val < 16 then x d * cs ⟨d.val, h⟩ - x ⟨d.val + 16, by omega⟩ * sn ⟨d.val, h⟩
  else if h' : d.val < 32 then x d * cs ⟨d.val - 16, by omega⟩ + x ⟨d.val - 16, by omega⟩ * sn ⟨d.val - 16, by omega⟩
  else x d

/-- The scores depend on their arguments only element by element, and on a key only where the query may look. -/
theorem seen_congr {q q' : Fin 128 → EReal} {k k' : Fin 256 → Fin 128 → EReal} {ok ok' : Fin 256 → BitVec 1}
    (hq : ∀ d, q d = q' d) (ho : ∀ n, ok n = ok' n) (hk : ∀ n, ok' n = 1#1 → ∀ d, k n d = k' n d) :
    seen q k ok = seen q' k' ok' := by
  obtain rfl : q = q' := funext hq
  obtain rfl : ok = ok' := funext ho
  funext n
  unfold seen score
  split
  · next h => simp only [hk n h]
  · rfl

/-- A finite extended real. -/
def Fin' (x : EReal) : Prop := ∃ r : ℝ, x = (r : EReal)

theorem Fin'.mul {x y : EReal} : Fin' x → Fin' y → Fin' (x * y)
  | ⟨a, ha⟩, ⟨b, hb⟩ => ⟨a * b, by rw [ha, hb, EReal.coe_mul]⟩

theorem Fin'.add {x y : EReal} : Fin' x → Fin' y → Fin' (x + y)
  | ⟨a, ha⟩, ⟨b, hb⟩ => ⟨a + b, by rw [ha, hb, EReal.coe_add]⟩

theorem Fin'.sub {x y : EReal} : Fin' x → Fin' y → Fin' (x - y)
  | ⟨a, ha⟩, ⟨b, hb⟩ => ⟨a - b, by rw [ha, hb, EReal.coe_sub]⟩

theorem Fin'.sum {n : ℕ} {f : Fin n → EReal} (h : ∀ i, Fin' (f i)) : Fin' (∑ i, f i) :=
  Finset.sum_induction f Fin' (fun _ _ => Fin'.add) ⟨0, rfl⟩ fun i _ => h i

theorem Fin'.lt_top {x : EReal} : Fin' x → x < ⊤
  | ⟨a, ha⟩ => ha ▸ EReal.coe_lt_top a

/-- A constant whose exponent is not the infinities' is finite. -/
theorem bits_fin (b : BitVec 32) (h : (b.extractLsb' 23 8).toNat ≠ 2 ^ 8 - 1) : Fin' (Ideal.ofBits FTy.f32 b) := by
  show Fin' (Ideal.ieee 8 23 b)
  unfold Ideal.ieee
  dsimp only
  rw [if_neg h]
  split <;> exact ⟨_, rfl⟩

/-- The scale of the scores is a finite number. -/
theorem scale_fin : Fin' (Ideal.ofBits FTy.f32 0x3DB504F3#32) := bits_fin _ (by decide)

/-- The search for the largest score starts at minus infinity. -/
theorem start_bot : Ideal.ofBits FTy.f32 0xFF800000#32 = ⊥ := by
  simp [Ideal.ofBits, Ideal.ieee]

/-- Scores of finite rows are finite. -/
theorem score_fin {q : Fin 128 → EReal} {k : Fin 256 → Fin 128 → EReal} {n : Fin 256} (hq : ∀ d, Fin' (q d))
    (hk : ∀ d, Fin' (k n d)) : Fin' (score q k n) :=
  (Fin'.sum fun d => (hk d).mul (hq d)).mul scale_fin

/-- An exponential is not negative. -/
theorem exp_nonneg (x : EReal) : 0 ≤ Ideal.exp x := by
  induction x using EReal.rec with
  | bot => exact le_rfl
  | top => exact le_top
  | coe r => exact EReal.coe_nonneg.2 (Real.exp_pos r).le

/-- With a finite sink and finite scores, what the weights are divided by is not zero. -/
theorem total_ne_zero {q : Fin 128 → EReal} {k : Fin 256 → Fin 128 → EReal} {ok : Fin 256 → BitVec 1} {s : EReal} (hs : Fin' s)
    (hf : ∀ n, ok n = 1#1 → Fin' (score q k n)) : total q k ok s ≠ 0 := by
  have ht : top q k ok s < ⊤ := by
    unfold top
    refine max_lt ((Finset.fold_max_lt _).2 ⟨?_, fun n _ => ?_⟩) hs.lt_top
    · rw [start_bot]; exact bot_lt_top
    · unfold seen
      split
      · next h => exact (hf n h).lt_top
      · exact bot_lt_top
  obtain ⟨r, rfl⟩ := hs
  have hb : (r : EReal) ≤ top q k ok r := le_max_right _ _
  have hp : 0 < Ideal.exp ((r : EReal) - top q k ok r) := by
    obtain ⟨u, hu⟩ : ∃ u : ℝ, top q k ok r = (u : EReal) :=
      ⟨_, (EReal.coe_toReal ht.ne (ne_of_gt (lt_of_lt_of_le (EReal.bot_lt_coe r) hb))).symm⟩
    rw [hu, ← EReal.coe_sub]
    exact EReal.coe_pos.2 (Real.exp_pos _)
  unfold total
  exact ne_of_gt (lt_of_lt_of_le hp (le_add_of_nonneg_left (Finset.sum_nonneg fun n _ => exp_nonneg _)))

/-- The cosine and the sine of a finite angle are finite. -/
theorem cos_fin {x : EReal} : Fin' x → Fin' (Ideal.cos x)
  | ⟨a, ha⟩ => ⟨Real.cos a, by rw [ha]; rfl⟩

theorem sin_fin {x : EReal} : Fin' x → Fin' (Ideal.sin x)
  | ⟨a, ha⟩ => ⟨Real.sin a, by rw [ha]; rfl⟩

/-- A power of finite numbers is finite. -/
theorem pow_fin {x y : EReal} : Fin' x → Fin' y → Fin' (Ideal.pow x y)
  | ⟨a, ha⟩, ⟨b, hb⟩ => ⟨Real.rpow a b, by rw [ha, hb]; rfl⟩

/-- A finite number divided by one that is not zero is finite. -/
theorem div_fin {x y : EReal} (h : y ≠ 0) : Fin' x → Fin' y → Fin' (Ideal.div x y)
  | ⟨a, ha⟩, ⟨b, hb⟩ => ⟨a * b⁻¹, by unfold Ideal.div; rw [if_neg h, ha, hb, EReal.coe_mul, EReal.coe_inv]⟩

theorem neg_fin {x : EReal} : Fin' x → Fin' (-x)
  | ⟨a, ha⟩ => ⟨-a, by rw [ha, EReal.coe_neg]⟩

/-- A finite row stays finite when it is turned by finite sines and cosines. -/
theorem turned_fin {x : Fin 128 → EReal} {cs sn : Fin 16 → EReal} (hx : ∀ d, Fin' (x d)) (hc : ∀ d, Fin' (cs d))
    (hn : ∀ d, Fin' (sn d)) (d : Fin 128) : Fin' (turned x cs sn d) := by
  unfold turned
  split
  · exact ((hx _).mul (hc _)).sub ((hx _).mul (hn _))
  · split
    · exact ((hx _).mul (hc _)).add ((hx _).mul (hn _))
    · exact hx _

/-- What stands at a position the query may not look at does not matter, when the sink and the scores are finite. -/
theorem attend_congr {q q' : Fin 128 → EReal} {k k' : Fin 256 → Fin 128 → EReal} {v v' : Fin 256 → EReal}
    {ok ok' : Fin 256 → BitVec 1} {s s' : EReal} (hq : ∀ d, q d = q' d) (ho : ∀ n, ok n = ok' n) (hs : s = s')
    (hk : ∀ n, ok' n = 1#1 → ∀ d, k n d = k' n d) (hv : ∀ n, ok' n = 1#1 → v n = v' n) (hf : Fin' s')
    (hg : ∀ n, ok' n = 1#1 → Fin' (score q' k' n)) : attend q k v ok s = attend q' k' v' ok' s' := by
  subst hs
  have hse := seen_congr hq ho hk
  have ht : top q k ok s = top q' k' ok' s := by unfold top; rw [hse]
  have hz : total q k ok s = total q' k' ok' s := by unfold total; rw [hse, ht]
  unfold attend
  rw [hse, ht, hz]
  refine Finset.sum_congr rfl fun n _ => ?_
  by_cases h : ok' n = 1#1
  · rw [hv n h]
  · have h0 : Ideal.div (Ideal.exp (seen q' k' ok' n - top q' k' ok' s)) (total q' k' ok' s) = 0 := by
      have : seen q' k' ok' n = ⊥ := by unfold seen; rw [if_neg h]
      rw [this, EReal.bot_sub]
      unfold Ideal.div
      rw [if_neg (total_ne_zero hf hg)]
      exact zero_mul _
    rw [h0, zero_mul, zero_mul]

end Cert.SwaIdeal.Layer

end
-- ==== Proof.SwaHeads.lean ====
/-
  The kernel's arithmetic for one half of a row block and the eight query heads that share a key head: what it computes, and
  that every column of it is the attention of one query.
-/
module

public import proofs.«01_k».proof.Proof.Gen.SwaIdeal.Value
public import proofs.«01_k».proof.Proof.SwaSpec
public import Idealize.ShloMosaic.Lib.Pipeline.ValueKit

@[expose] public section

set_option maxRecDepth 16384

noncomputable section

namespace Cert.SwaIdeal.Layer

open Cert.SwaIdeal Cert.SwaIdeal.Gen Idealize.ShloMosaic Idealize.ShloMosaic.TcCoe Idealize.SL.Sem
open Idealize.ShloMosaic.Pipeline (Dat)

/-- The kernel's arithmetic for the eight query heads that share a key head, in one half of the row block: keys down, queries
    of all eight heads across. -/
def core (ok : IVec S256x1024 1) (sink : FVec Ideal S1x1024 .f32) (k v : FVec Ideal S256x128 .bf16) (q : FVec Ideal S1024x128 .f32) :
    FVec Ideal S1024x128 .f32 :=
  let s := select ok
    (mulf (matmul dot_S256x128_S1024x128_S256x1024_1_1_0_0_n_n none k (truncf .bf16 q bitsLt_bf16_f32) (constant S256x1024 .f32 0x00000000#32))
      (broadcast S256x1024 (Scalar.ofBits .f32 0x3DB504F3#32)))
    (broadcast S256x1024 (Named.named (F := Ideal) κ "mask" 0xF149F2CA#32))
  let m := maximumf (shapeCast S1x1024 (multiReduction .maximumf [0] S1024 s 0xFF800000#32 reduces_S256x1024_S1024 (.inl rfl) rfl)
    shapeCasts_S1024_S1x1024) sink
  let e := exp (subf s (broadcastTo S256x1024 m broadcasts_S1x1024_S256x1024))
  let z := addf (shapeCast S1x1024 (multiReduction .add [0] S1024 e 0x00000000#32 reduces_S256x1024_S1024 (.inl rfl) rfl)
    shapeCasts_S1024_S1x1024) (exp (subf sink m))
  matmul dot_S256x1024_S256x128_S1024x128_0_0_1_1_n_n none
    (truncf .bf16 (divf e (broadcastTo S256x1024 z broadcasts_S1x1024_S256x1024)) bitsLt_bf16_f32) v
    (constant S1024x128 .f32 0x00000000#32)

/-- Read at a query and a column, it is the attention of that query. -/
theorem core_apply (ok : IVec S256x1024 1) (sink : FVec Ideal S1x1024 .f32) (k v : FVec Ideal S256x128 .bf16) (q : FVec Ideal S1024x128 .f32)
    (R : Fin 1024) (d : Fin 128) :
    core ok sink k v q (ix2 R d) = attend (fun e => q (ix2 R e)) (fun n e => k (ix2 n e)) (fun n => v (ix2 n d))
      (fun n => ok (ix2 n R)) (sink (ix2 0 R)) := by
  pointwise [core]
  unfold attend total top seen score
  rfl

/-- The kernel's rotation of one tile: the tile, the tile moved by 16 lanes to either side, each by its table. -/
def turn (x a b c : FVec Ideal S128x128 .f32) : FVec Ideal S128x128 .f32 :=
  addf (addf (mulf x a) (mulf (dynamicRotate 1 112#32 none x rotates_S128x128_d1) b))
    (mulf (dynamicRotate 1 16#32 none x rotates_S128x128_d1) c)

theorem turn_apply (x a b c : FVec Ideal S128x128 .f32) (r d : Fin 128) :
    turn x a b c (ix2 r d) = x (ix2 r d) * a (ix2 r d) + x (ix2 r ⟨(d.val + 128 - 112) % 128, by omega⟩) * b (ix2 r d)
      + x (ix2 r ⟨(d.val + 128 - 16) % 128, by omega⟩) * c (ix2 r d) := by
  pointwise [turn]

/-- Where the tables hold a row's cosines and sines, it is the rotation of that row. -/
theorem turn_turned (x a b c : FVec Ideal S128x128 .f32) (r : Fin 128) (cs sn : Fin 16 → EReal)
    (h0 : ∀ (d : Fin 128) (h : d.val < 16), a (ix2 r d) = cs ⟨d.val, h⟩ ∧ b (ix2 r d) = -sn ⟨d.val, h⟩ ∧ c (ix2 r d) = 0)
    (h1 : ∀ (d : Fin 128) (h : ¬ d.val < 16) (h' : d.val < 32),
      a (ix2 r d) = cs ⟨d.val - 16, by omega⟩ ∧ b (ix2 r d) = 0 ∧ c (ix2 r d) = sn ⟨d.val - 16, by omega⟩)
    (h2 : ∀ (d : Fin 128) (h : ¬ d.val < 32), a (ix2 r d) = 1 ∧ b (ix2 r d) = 0 ∧ c (ix2 r d) = 0) (d : Fin 128) :
    turn x a b c (ix2 r d) = turned (fun e => x (ix2 r e)) cs sn d := by
  rw [turn_apply]
  unfold turned
  by_cases h : d.val < 16
  · obtain ⟨ea, eb, ec⟩ := h0 d h
    rw [dif_pos h, ea, eb, ec, mul_zero, add_zero, mul_neg, ← sub_eq_add_neg]
    exact congrArg (fun u => _ - x (ix2 r u) * _) (Fin.ext (by simp only; omega))
  rw [dif_neg h]
  by_cases h' : d.val < 32
  · obtain ⟨ea, eb, ec⟩ := h1 d h h'
    rw [dif_pos h', ea, eb, ec, mul_zero, add_zero]
    exact congrArg (fun u => _ + x (ix2 r u) * _) (Fin.ext (by simp only; omega))
  · obtain ⟨ea, eb, ec⟩ := h2 d h'
    rw [dif_neg h', ea, eb, ec, mul_zero, mul_zero, add_zero, add_zero, mul_one]

/-- The sinks of eight heads, each repeated over the queries of its head. -/
def sinkRow (s : Fin 8 → Elt Ideal .f32) : FVec Ideal S1x1024 .f32 :=
  concatenate S1x1024 1 [⟨S1x128, broadcast S1x128 (s 0)⟩, ⟨S1x128, broadcast S1x128 (s 1)⟩, ⟨S1x128, broadcast S1x128 (s 2)⟩,
    ⟨S1x128, broadcast S1x128 (s 3)⟩, ⟨S1x128, broadcast S1x128 (s 4)⟩, ⟨S1x128, broadcast S1x128 (s 5)⟩,
    ⟨S1x128, broadcast S1x128 (s 6)⟩, ⟨S1x128, broadcast S1x128 (s 7)⟩]
    concatenates_S1x128_S1x128_S1x128_S1x128_S1x128_S1x128_S1x128_S1x128_S1x1024_d1

theorem sinkRow_apply (s : Fin 8 → Elt Ideal .f32) (g : Fin 8) (r : Fin 128) :
    sinkRow s (ix2 0 ⟨g.val * 128 + r.val, by omega⟩) = s g := by
  fin_cases g <;> pointwise [sinkRow]
  all_goals
    repeat refine (dif_neg (by omega)).trans ?_
    try refine (dif_pos (by omega)).trans ?_
    try rfl

/-- Eight tiles on top of each other. -/
def stack (q : Fin 8 → FVec Ideal S128x128 .f32) : FVec Ideal S1024x128 .f32 :=
  concatenate S1024x128 0 [⟨S128x128, q 0⟩, ⟨S128x128, q 1⟩, ⟨S128x128, q 2⟩, ⟨S128x128, q 3⟩, ⟨S128x128, q 4⟩, ⟨S128x128, q 5⟩,
    ⟨S128x128, q 6⟩, ⟨S128x128, q 7⟩]
    concatenates_S128x128_S128x128_S128x128_S128x128_S128x128_S128x128_S128x128_S128x128_S1024x128_d0

theorem stack_apply (q : Fin 8 → FVec Ideal S128x128 .f32) (g : Fin 8) (r e : Fin 128) :
    stack q (ix2 ⟨g.val * 128 + r.val, by omega⟩ e) = q g (ix2 r e) := by
  fin_cases g <;> pointwise [stack]
  all_goals
    repeat refine (dif_neg (by omega)).trans ?_
    try refine (dif_pos (by omega)).trans ?_
    try exact congrArg (fun u : Fin 128 => (q _ : FVec Ideal S128x128 .f32) (ix2 u e)) (Fin.ext (by dsimp only; omega))

/-- Two tiles on top of each other. -/
def pair (x y : FVec Ideal S128x128 .bf16) : FVec Ideal S256x128 .bf16 :=
  concatenate S256x128 0 [⟨S128x128, x⟩, ⟨S128x128, y⟩] concatenates_S128x128_S128x128_S256x128_d0

/-- One half of a row block for the heads that share a key head, from the tiles it loads. -/
def half (ok : IVec S256x1024 1) (s : Fin 8 → Elt Ideal .f32) (kp kc vp vc ap bp cp a b c : Vec Ideal S128x128 .f32)
    (q : Fin 8 → Vec Ideal S128x128 .f32) : FVec Ideal S1024x128 .f32 :=
  core ok (sinkRow s)
    (pair
      (truncf .bf16 (turn kp (shapeCast S128x128 ap shapeCasts_S128x128_S128x128) (shapeCast S128x128 bp shapeCasts_S128x128_S128x128)
        (shapeCast S128x128 cp shapeCasts_S128x128_S128x128)) bitsLt_bf16_f32)
      (truncf .bf16 (turn kc (shapeCast S128x128 a shapeCasts_S128x128_S128x128) (shapeCast S128x128 b shapeCasts_S128x128_S128x128)
        (shapeCast S128x128 c shapeCasts_S128x128_S128x128)) bitsLt_bf16_f32))
    (pair (truncf .bf16 vp bitsLt_bf16_f32) (truncf .bf16 vc bitsLt_bf16_f32))
    (stack fun g => turn (q g) (shapeCast S128x128 a shapeCasts_S128x128_S128x128) (shapeCast S128x128 b shapeCasts_S128x128_S128x128)
      (shapeCast S128x128 c shapeCasts_S128x128_S128x128))

/-- A cast of a tile to its own shape changes nothing. -/
theorem cast_self (x : FVec Ideal S128x128 .f32) : shapeCast S128x128 x shapeCasts_S128x128_S128x128 = x := by
  funext y
  pointwise []

theorem half_apply (ok : IVec S256x1024 1) (s : Fin 8 → Elt Ideal .f32) (kp kc vp vc ap bp cp a b c : Vec Ideal S128x128 .f32)
    (q : Fin 8 → Vec Ideal S128x128 .f32) (g : Fin 8) (r d : Fin 128) :
    half ok s kp kc vp vc ap bp cp a b c q (ix2 ⟨g.val * 128 + r.val, by omega⟩ d)
      = attend (fun e => turn (q g) a b c (ix2 r e))
          (fun n e => if h : n.val < 128 then turn kp ap bp cp (ix2 ⟨n.val, h⟩ e) else turn kc a b c (ix2 ⟨n.val - 128, by omega⟩ e))
          (fun n => if h : n.val < 128 then vp (ix2 ⟨n.val, h⟩ d) else vc (ix2 ⟨n.val - 128, by omega⟩ d))
          (fun n => ok (ix2 n ⟨g.val * 128 + r.val, by omega⟩)) (s g) := by
  unfold half
  rw [core_apply, sinkRow_apply]
  simp only [cast_self, stack_apply]
  congr 1
  · funext n e
    pointwise [pair]
  · funext n
    pointwise [pair]

/-- The band the kernel lets a query look at, before the start of the sequence is cut off. -/
theorem band_apply (n : Fin 256) (R : Fin 1024) :
    k0_pay8 (ix2 n R) = BitVec.ofBool (decide (R.val % 128 / 64 ≤ n.val / 64 ∧ n.val / 64 ≤ R.val % 128 / 64 + 2)) := by
  have hR : ∀ R : Fin 1024, IntOp.shrsi ArithUnit.vector (IntOp.andi (BitVec.ofNat 32 R.val) 127#32) 6#32
      = BitVec.ofNat 32 (R.val % 128 / 64) := by decide +kernel
  have hn : ∀ n : Fin 256, IntOp.shrsi ArithUnit.vector (BitVec.ofNat 32 n.val) 6#32 = BitVec.ofNat 32 (n.val / 64) := by
    decide +kernel
  pointwise [k0_pay8]
  rw [hR R, hn n]
  obtain ⟨a, ea⟩ : ∃ a : Fin 2, R.val % 128 / 64 = a.val := ⟨⟨R.val % 128 / 64, by omega⟩, rfl⟩
  obtain ⟨b, eb⟩ : ∃ b : Fin 4, n.val / 64 = b.val := ⟨⟨n.val / 64, by omega⟩, rfl⟩
  rw [ea, eb]
  clear ea eb
  revert a b
  decide +kernel

end Cert.SwaIdeal.Layer

end
-- ==== Proof.SwaRead.lean ====
/-
  The reference of the banded attention, read element by element: its rotated heads, the window of each block, which of its
  positions a query may look at, and the result as the attention of one query.
-/
module

public import proofs.«01_k».proof.Proof.Gen.SwaRefIdeal.Read
public import proofs.«01_k».proof.Proof.SwaSpec
public import Idealize.ShloMosaic.Lib.Pipeline.ValueKit

@[expose] public section

set_option maxRecDepth 16384

noncomputable section

namespace Cert.SwaIdeal.Layer

open Cert.SwaRefIdeal Cert.SwaRefIdeal.Gen Idealize.ShloMosaic Idealize.ShloMosaic.TcCoe Idealize.SL.Sem
open Cert.SwaRefIdeal.Read

variable (x0 : FVec Ideal S16384x2560 .f32) (x1 : IVec S16384 32) (x2 : FVec Ideal S16 .f32)

/-- The cosine of the reference's `d`-th angle at row `i`. -/
abbrev cosAt (i : Fin 16384) (d : Fin 16) : EReal := val_main_v16 (F := Ideal) x1 (ix2 i d)

/-- The sine of the reference's `d`-th angle at row `i`. -/
abbrev sinAt (i : Fin 16384) (d : Fin 16) : EReal := val_main_v18 (F := Ideal) x1 (ix2 i d)

/-- A rotated query head of the reference. -/
abbrev queryAt (i : Fin 16384) (h : Fin 16) (e : Fin 128) : EReal :=
  turned (fun e => x0 (ix2 i ⟨h.val * 128 + e.val, by omega⟩)) (cosAt x1 i) (sinAt x1 i) e

/-- A rotated key head of the reference. -/
abbrev keyAt (i : Fin 16384) (h : Fin 2) (e : Fin 128) : EReal :=
  turned (fun e => x0 (ix2 i ⟨2048 + h.val * 128 + e.val, by omega⟩)) (cosAt x1 i) (sinAt x1 i) e

/-- Whether a query in row `r` of block `b` may look at position `n` of its window. -/
def look (b : ℕ) (r n : ℕ) : BitVec 1 :=
  BitVec.ofBool (decide (r / 64 ≤ n / 64 ∧ n / 64 ≤ r / 64 + 2 ∧ (0 < b ∨ 128 ≤ n)))

theorem query_ref (i : Fin 16384) (h : Fin 16) (e : Fin 128) :
    val_main_v37 (F := Ideal) x0 x1 (ix3 i h e) = queryAt x0 x1 i h e := by
  pointwise [val_main_v37, val_main_v36, val_main_v35, val_main_v34, val_main_v33, val_main_v32, val_main_v31, val_main_v30,
    val_main_v29, val_main_v28, val_main_v27, val_main_v26, val_main_v25, val_main_v24, val_main_v23, val_main_v20,
    val_main_v19, val_main_v17]
  unfold queryAt turned
  by_cases h0 : e.val < 16
  · rw [dif_pos h0, dif_pos h0]
    exact congrArg₂ (fun u w => x0 (ix2 i u) * _ - x0 (ix2 i w) * _) (Fin.ext (by first | omega | (simp only; omega) | simp only)) (Fin.ext (by first | omega | (simp only; omega) | simp only))
  rw [dif_neg h0, dif_neg h0]
  by_cases h1 : e.val < 32
  · rw [dif_pos (show e.val - 16 < 16 by omega), dif_pos h1]
    exact congrArg₂ (fun u w => x0 (ix2 i u) * _ + x0 (ix2 i w) * _) (Fin.ext (by first | omega | (simp only; omega) | simp only)) (Fin.ext (by first | omega | (simp only; omega) | simp only))
  · rw [dif_neg (show ¬ e.val - 16 < 16 by omega), dif_neg h1]
    exact congrArg (fun u => x0 (ix2 i u)) (Fin.ext (by simp only; omega))

theorem key_ref (i : Fin 16384) (h : Fin 2) (e : Fin 128) :
    val_main_v52 (F := Ideal) x0 x1 (ix3 i h e) = keyAt x0 x1 i h e := by
  pointwise [val_main_v52, val_main_v51, val_main_v50, val_main_v49, val_main_v48, val_main_v47, val_main_v46, val_main_v45,
    val_main_v44, val_main_v43, val_main_v42, val_main_v41, val_main_v40, val_main_v39, val_main_v38, val_main_v21,
    val_main_v19, val_main_v17]
  unfold keyAt turned
  by_cases h0 : e.val < 16
  · rw [dif_pos h0, dif_pos h0]
    exact congrArg₂ (fun u w => x0 (ix2 i u) * _ - x0 (ix2 i w) * _) (Fin.ext (by simp only; omega)) (Fin.ext (by simp only; omega))
  rw [dif_neg h0, dif_neg h0]
  by_cases h1 : e.val < 32
  · rw [dif_pos (show e.val - 16 < 16 by omega), dif_pos h1]
    exact congrArg₂ (fun u w => x0 (ix2 i u) * _ + x0 (ix2 i w) * _) (Fin.ext (by simp only; omega)) (Fin.ext (by simp only; omega))
  · rw [dif_neg (show ¬ e.val - 16 < 16 by omega), dif_neg h1]
    exact congrArg (fun u => x0 (ix2 i u)) (Fin.ext (by simp only; omega))

theorem window_key (b : Fin 128) (n : Fin 256) (h : Fin 2) (e : Fin 128) (hn : 0 < b.val ∨ 128 ≤ n.val) :
    val_main_v59 (F := Ideal) x0 x1 (ix4 b n h e)
      = val_main_v52 (F := Ideal) x0 x1 (ix3 ⟨b.val * 128 + n.val - 128, by omega⟩ h e) := by
  pointwise [val_main_v59, val_main_v58, val_main_v57, val_main_v56, val_main_v55, val_main_v54]
  by_cases h0 : n.val < 128
  · rw [dif_pos h0, dif_neg (show ¬ b.val < 1 by omega)]
    exact congrArg (fun u => val_main_v52 (F := Ideal) x0 x1 (ix3 u h e)) (Fin.ext (by simp only; omega))
  · rw [dif_neg h0]
    exact congrArg (fun u => val_main_v52 (F := Ideal) x0 x1 (ix3 u h e)) (Fin.ext (by simp only; omega))

theorem window_value (b : Fin 128) (n : Fin 256) (h : Fin 2) (e : Fin 128) (hn : 0 < b.val ∨ 128 ≤ n.val) :
    val_main_v66 (F := Ideal) x0 (ix4 b n h e)
      = x0 (ix2 ⟨b.val * 128 + n.val - 128, by omega⟩ ⟨2304 + h.val * 128 + e.val, by omega⟩) := by
  pointwise [val_main_v66, val_main_v65, val_main_v64, val_main_v63, val_main_v62, val_main_v61, val_main_v60, val_main_v22]
  by_cases h0 : n.val < 128
  · rw [dif_pos h0, dif_neg (show ¬ b.val < 1 by omega)]
    exact congrArg₂ (fun u w => x0 (ix2 u w)) (Fin.ext (by simp only; omega)) (Fin.ext (by simp only; omega))
  · rw [dif_neg h0]
    exact congrArg₂ (fun u w => x0 (ix2 u w)) (Fin.ext (by simp only; omega)) (Fin.ext (by simp only; omega))

/-- The reference's scores, masked. -/
theorem seen_ref (b : Fin 128) (h : Fin 2) (g : Fin 8) (r : Fin 128) (n : Fin 256) :
    val_main_v111 (F := Ideal) x0 x1 (ix5 b h g r n)
      = seen (fun e => val_main_v53 (F := Ideal) x0 x1 (ix5 b r h g e)) (fun n e => val_main_v59 (F := Ideal) x0 x1 (ix4 b n h e))
          (fun n => val_main_v109 (F := Ideal) (ix3 b r n)) n := by
  pointwise [val_main_v111, val_main_call2_v1, val_main_call2_v2, val_main_call2_v0, val_main_cst_13, val_main_v110, val_main_v70, val_main_v69,
    val_main_cst_5, val_main_v68, val_main_v67]
  have hb : id (constant (F := Ideal) S_ FTy.f32 4286578688#32) ix0 = ⊥ := start_bot
  rw [hb]
  rfl

/-- The reference's search for the largest score. -/
theorem search_ref (b : Fin 128) (h : Fin 2) (g : Fin 8) (r : Fin 128) :
    val_main_v114 (F := Ideal) x0 x1 (ix4 b h g r)
      = Finset.fold max (Ideal.ofBits .f32 0xFF800000#32)
          (seen (fun e => val_main_v53 (F := Ideal) x0 x1 (ix5 b r h g e)) (fun n e => val_main_v59 (F := Ideal) x0 x1 (ix4 b n h e))
            (fun n => val_main_v109 (F := Ideal) (ix3 b r n))) Finset.univ := by
  pointwise [val_main_v114, val_main_cst_14]
  simp only [seen_ref]

/-- The reference's sink of a head. -/
theorem sink_ref (b : Fin 128) (h : Fin 2) (g : Fin 8) (r : Fin 128) :
    val_main_v115 (F := Ideal) x2 (ix4 b h g r) = x2 (ix1 ⟨h.val * 8 + g.val, by omega⟩) := by
  pointwise [val_main_v115, val_main_v113, val_main_v112]

/-- The largest score the reference finds, the sink included. -/
theorem top_ref (b : Fin 128) (h : Fin 2) (g : Fin 8) (r : Fin 128) :
    val_main_v116 (F := Ideal) x0 x1 x2 (ix4 b h g r)
      = top (fun e => val_main_v53 (F := Ideal) x0 x1 (ix5 b r h g e)) (fun n e => val_main_v59 (F := Ideal) x0 x1 (ix4 b n h e))
          (fun n => val_main_v109 (F := Ideal) (ix3 b r n)) (x2 (ix1 ⟨h.val * 8 + g.val, by omega⟩)) := by
  rw [val_main_v116_apply, search_ref, sink_ref]
  rfl

/-- The exponential the reference takes of a score. -/
theorem exp_ref (b : Fin 128) (h : Fin 2) (g : Fin 8) (r : Fin 128) (n : Fin 256) :
    val_main_v120 (F := Ideal) x0 x1 x2 (ix5 b h g r n)
      = Ideal.exp (seen (fun e => val_main_v53 (F := Ideal) x0 x1 (ix5 b r h g e)) (fun n e => val_main_v59 (F := Ideal) x0 x1 (ix4 b n h e))
          (fun n => val_main_v109 (F := Ideal) (ix3 b r n)) n
        - top (fun e => val_main_v53 (F := Ideal) x0 x1 (ix5 b r h g e)) (fun n e => val_main_v59 (F := Ideal) x0 x1 (ix4 b n h e))
          (fun n => val_main_v109 (F := Ideal) (ix3 b r n)) (x2 (ix1 ⟨h.val * 8 + g.val, by omega⟩))) := by
  pointwise [val_main_v120, val_main_v119, val_main_v118, val_main_v117]
  rw [seen_ref, top_ref]

/-- The sum of the exponentials of a query's scores. -/
theorem sum_ref (b : Fin 128) (h : Fin 2) (g : Fin 8) (r : Fin 128) :
    val_main_v121 (F := Ideal) x0 x1 x2 (ix4 b h g r) = ∑ n : Fin 256, val_main_v120 (F := Ideal) x0 x1 x2 (ix5 b h g r n) := by
  pointwise [val_main_v121, val_main_cst_15]

/-- The sink's own exponential. -/
theorem rest_ref (b : Fin 128) (h : Fin 2) (g : Fin 8) (r : Fin 128) :
    val_main_v124 (F := Ideal) x0 x1 x2 (ix4 b h g r)
      = Ideal.exp (x2 (ix1 ⟨h.val * 8 + g.val, by omega⟩) - val_main_v116 (F := Ideal) x0 x1 x2 (ix4 b h g r)) := by
  pointwise [val_main_v124, val_main_v123, val_main_v122, val_main_v113, val_main_v112]

/-- What the reference divides the weights of a query by. -/
theorem total_ref (b : Fin 128) (h : Fin 2) (g : Fin 8) (r : Fin 128) :
    val_main_v125 (F := Ideal) x0 x1 x2 (ix4 b h g r)
      = total (fun e => val_main_v53 (F := Ideal) x0 x1 (ix5 b r h g e)) (fun n e => val_main_v59 (F := Ideal) x0 x1 (ix4 b n h e))
          (fun n => val_main_v109 (F := Ideal) (ix3 b r n)) (x2 (ix1 ⟨h.val * 8 + g.val, by omega⟩)) := by
  rw [val_main_v125_apply, sum_ref, rest_ref, top_ref]
  simp only [exp_ref]
  rfl

/-- A weight the reference gives a position of the window. -/
theorem weight_ref (b : Fin 128) (h : Fin 2) (g : Fin 8) (r : Fin 128) (n : Fin 256) :
    val_main_v128 (F := Ideal) x0 x1 x2 (ix5 b h g r n)
      = Ideal.div (val_main_v120 (F := Ideal) x0 x1 x2 (ix5 b h g r n)) (val_main_v125 (F := Ideal) x0 x1 x2 (ix4 b h g r)) := by
  pointwise [val_main_v128, val_main_v127, val_main_v126]

/-- The reference's heads before they are laid side by side. -/
theorem head_ref (b : Fin 128) (h : Fin 2) (d : Fin 128) (g : Fin 8) (r : Fin 128) :
    val_main_v129 (F := Ideal) x0 x1 x2 (ix5 b h d g r)
      = attend (fun e => val_main_v53 (F := Ideal) x0 x1 (ix5 b r h g e)) (fun n e => val_main_v59 (F := Ideal) x0 x1 (ix4 b n h e))
          (fun n => val_main_v66 (F := Ideal) x0 (ix4 b n h d)) (fun n => val_main_v109 (F := Ideal) (ix3 b r n))
          (x2 (ix1 ⟨h.val * 8 + g.val, by omega⟩)) := by
  pointwise [val_main_v129]
  unfold attend
  refine Finset.sum_congr rfl fun n _ => ?_
  rw [mul_comm, weight_ref, exp_ref, total_ref]

/-- The reference's result: column `j` of row `i` is a column of the head `j / 128`, for the query in row `i`. -/
theorem attend_ref (i : Fin 16384) (j : Fin 2048) :
    val_main_v132 (F := Ideal) x0 x1 x2 (ix2 i j)
      = attend
          (fun e => val_main_v53 (F := Ideal) x0 x1 (ix5 ⟨i.val / 128, by omega⟩ ⟨i.val % 128, by omega⟩ ⟨j.val / 1024, by omega⟩ ⟨j.val / 128 % 8, by omega⟩ e))
          (fun n e => val_main_v59 (F := Ideal) x0 x1 (ix4 ⟨i.val / 128, by omega⟩ n ⟨j.val / 1024, by omega⟩ e))
          (fun n => val_main_v66 (F := Ideal) x0 (ix4 ⟨i.val / 128, by omega⟩ n ⟨j.val / 1024, by omega⟩ ⟨j.val % 128, by omega⟩))
          (fun n => val_main_v109 (F := Ideal) (ix3 ⟨i.val / 128, by omega⟩ ⟨i.val % 128, by omega⟩ n))
          (x2 (ix1 ⟨j.val / 1024 * 8 + j.val / 128 % 8, by omega⟩)) := by
  pointwise [val_main_v132, val_main_v131, val_main_v130]
  rw [head_ref]

/-- The reference's chunk of a query. -/
theorem chunk_query (r : Fin 128) : val_main_v72 (F := Ideal) (ix1 r) = BitVec.ofNat 32 (r.val / 64) := by
  revert r
  decide +kernel

/-- The reference's chunk of a key. -/
theorem chunk_key (n : Fin 256) : val_main_v74 (F := Ideal) (ix1 n) = BitVec.ofNat 32 (n.val / 64) := by
  revert n
  decide +kernel

/-- A chunk of keys is near a chunk of queries when it is one of three. -/
theorem near (c : Fin 2) (k : Fin 4) :
    IntOp.andi (IntOp.cmpi .sge (BitVec.ofNat 32 k.val) (IntOp.subi (IntOp.addi (BitVec.ofNat 32 c.val) 2#32) 2#32))
        (IntOp.cmpi .sle (BitVec.ofNat 32 k.val) (IntOp.addi (BitVec.ofNat 32 c.val) 2#32))
      = BitVec.ofBool (decide (c.val ≤ k.val ∧ k.val ≤ c.val + 2)) := by
  revert c k
  decide +kernel

/-- A position of a window is inside the sequence unless it is in the first half of the first block's window. -/
theorem inside (b : Fin 128) (n : Fin 256) :
    IntOp.cmpi .sge (IntOp.addi (IntOp.subi (IntOp.muli (BitVec.ofNat 32 b.val) 128#32) 128#32) (BitVec.ofNat 32 n.val)) 0#32
      = BitVec.ofBool (decide (0 < b.val ∨ 128 ≤ n.val)) := by
  revert b n
  decide +kernel

/-- Two truths joined. -/
theorem both (p q : Prop) [Decidable p] [Decidable q] :
    IntOp.andi (BitVec.ofBool (decide p)) (BitVec.ofBool (decide q)) = BitVec.ofBool (decide (p ∧ q)) := by
  by_cases hp : p <;> by_cases hq : q <;> simp only [hp, hq, decide_true, decide_false, and_true, and_false] <;> decide

/-- Which positions the reference lets a query look at. -/
theorem look_ref (b r : Fin 128) (n : Fin 256) : val_main_v109 (F := Ideal) (ix3 b r n) = look b.val r.val n.val := by
  pointwise [val_main_v109, val_main_v108, val_main_v107, val_main_v106, val_main_v105, val_main_v104, val_main_c_12, val_main_v103,
    val_main_v102, val_main_v101, val_main_v100, val_main_v99, val_main_v98, val_main_v97, val_main_v96, val_main_c_11, val_main_v95,
    val_main_v94, val_main_c_10, val_main_v93, val_main_v92, val_main_v91, val_main_v90, val_main_v89, val_main_v88, val_main_v87,
    val_main_v86, val_main_c_9, val_main_v85, val_main_v84, val_main_v83, val_main_v82, val_main_v81, val_main_v80, val_main_v79,
    val_main_c_8, val_main_v78, val_main_v77, val_main_c_7, val_main_v76, val_main_v75]
  rw [chunk_query, chunk_key]
  refine (congrArg₂ IntOp.andi (near ⟨r.val / 64, by omega⟩ ⟨n.val / 64, by omega⟩) (inside b n)).trans ?_
  rw [both]
  unfold look
  simp only [and_assoc]

/-- The reference's angles are finite numbers. -/
theorem angle_fin (i : Fin 16384) (d : Fin 16) : Fin' (val_main_v15 (F := Ideal) x1 (ix2 i d)) := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2]
  refine Fin'.mul ⟨((x1 (ix1 i)).toInt : ℝ), rfl⟩ (pow_fin (bits_fin _ (by decide)) (div_fin (fun h0 => ?_) (neg_fin
    (Fin'.mul (bits_fin _ (by decide)) ⟨((BitVec.ofNat 32 d.val).toInt : ℝ), rfl⟩)) (bits_fin _ (by decide))))
  simp [Ideal.ofBits, Ideal.ieee] at h0

/-- The cosines and sines of the reference are finite. -/
theorem cosAt_fin (i : Fin 16384) (d : Fin 16) : Fin' (cosAt x1 i d) := by
  unfold cosAt
  rw [val_main_v16_apply]
  exact cos_fin (angle_fin x1 i d)

theorem sinAt_fin (i : Fin 16384) (d : Fin 16) : Fin' (sinAt x1 i d) := by
  unfold sinAt
  rw [val_main_v18_apply]
  exact sin_fin (angle_fin x1 i d)

/-- The rotated heads are finite when the rows are. -/
theorem queryAt_fin (hx : ∀ i, Fin' (x0 i)) (i : Fin 16384) (h : Fin 16) (e : Fin 128) : Fin' (queryAt x0 x1 i h e) :=
  turned_fin (fun _ => hx _) (cosAt_fin x1 i) (sinAt_fin x1 i) e

theorem keyAt_fin (hx : ∀ i, Fin' (x0 i)) (i : Fin 16384) (h : Fin 2) (e : Fin 128) : Fin' (keyAt x0 x1 i h e) :=
  turned_fin (fun _ => hx _) (cosAt_fin x1 i) (sinAt_fin x1 i) e

/-- A query of the grouped heads. -/
theorem group_ref (b r : Fin 128) (h : Fin 2) (g : Fin 8) (e : Fin 128) :
    val_main_v53 (F := Ideal) x0 x1 (ix5 b r h g e)
      = queryAt x0 x1 ⟨b.val * 128 + r.val, by omega⟩ ⟨h.val * 8 + g.val, by omega⟩ e := by
  pointwise [val_main_v53]
  rw [query_ref]

end Cert.SwaIdeal.Layer

end
-- ==== Proof.SwaRows.lean ====
/-
  The kernel's side of the banded attention: the tables its host code prepares, and the rows its windows hold.
-/
module

public import proofs.«01_k».proof.Proof.Gen.SwaIdeal.Value
public import proofs.«01_k».proof.Proof.SwaHeads
public import proofs.«01_k».proof.Proof.SwaRead
public import Idealize.ShloMosaic.Lib.Pipeline.ValueKit

@[expose] public section

set_option maxRecDepth 16384

noncomputable section

namespace Cert.SwaIdeal.Layer

open Cert.SwaIdeal Cert.SwaIdeal.Gen Idealize.ShloMosaic Idealize.ShloMosaic.TcCoe Idealize.SL.Sem
open Idealize.ShloMosaic.Pipeline (Dat)
open Cert.SwaRefIdeal.Read (val_main_v15 val_main_v16 val_main_v18)

/-- Which block of its array each window holds at a grid point. -/
theorem idx : ∀ t : Fin cfg0.N, win0_0.index t = ![0, 0] ∧ win0_1.index t = ![t.val, 0] ∧ win0_2.index t = ![2 * t.val - 1, 8]
    ∧ win0_3.index t = ![t.val, 8] ∧ win0_4.index t = ![2 * t.val - 1, 9] ∧ win0_5.index t = ![t.val, 9]
    ∧ win0_6.index t = ![2 * t.val - 1, 0] ∧ win0_7.index t = ![2 * t.val - 1, 0] ∧ win0_8.index t = ![2 * t.val - 1, 0]
    ∧ win0_9.index t = ![t.val, 0] ∧ win0_10.index t = ![t.val, 0] ∧ win0_11.index t = ![t.val, 0] ∧ win0_12.index t = ![t.val, 0]
    ∧ t.val < 64 :=
  (by decide +kernel : ∀ t : Fin grid0.N, _)

/-- The sixteen frequencies of the rotary angles, as the host prepares them. -/
def freqs : FVec Ideal S16 .f32 :=
  Host.powf (broadcastInDim S16 ![] bcast_S_S16 (constant S_ .f32 0x48F42400#32))
    (Host.divf
      (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))

/-- The angle of every row at every lane. -/
def angles (x : IVec S16384 32) : FVec Ideal S16384x128 .f32 :=
  mulf (broadcastInDim S16384x128 ![0, 1] bcast_S16384x1_S16384x128_0_1 (sitofp .f32 (shapeCast S16384x1 x shapeCasts_S16384_S16384x1)))
    (broadcastInDim S16384x128 ![0, 1] bcast_S1x128_S16384x128_0_1
      (shapeCast S1x128
        (concatenate S128 0
          [⟨S16, freqs⟩, ⟨S16, freqs⟩, ⟨S96, broadcastInDim S96 ![] bcast_S_S96 (constant (F := Ideal) S_ .f32 0x00000000#32)⟩]
          concatenates_S16_S16_S96_S128_d0)
        shapeCasts_S128_S1x128))

/-- A number at every row and lane. -/
def lanes (n : BitVec 32) : IVec S16384x128 32 := broadcastInDim S16384x128 ![] bcast_S_S16384x128 (constantI S_ 32 n)

/-- A value at every row and lane. -/
def plain (b : BitVec 32) : FVec Ideal S16384x128 .f32 :=
  broadcastInDim S16384x128 ![] bcast_S_S16384x128 (id (constant (F := Ideal) S_ .f32 b))

variable (m : (ℓ : Loc nD τ sig) → Buf (Elt Ideal) ℓ) (c : Dev nD)

/-- The table of the rows' own factor. -/
theorem table_own : V m c main_v23
    = select (cmpi .slt (iotaInDim S16384x128 32 1) (lanes 32#32)) (Host.cos (angles (m ((c : Thread nD τ).loc main_arg1)))) (plain 0x3F800000#32) := by
  unfold V
  simp only [hostOps0, hostOps0_1, hostOps0_2, hostOps0_3, hostOps0_4, hostOps0_5, hostOps0_6, List.flatten_cons,
    List.flatten_nil, List.append_nil, List.cons_append, List.nil_append]
  simp only [StableHlo.after_cons, StableHlo.after_nil, StableHlo.TRef.unary, StableHlo.TRef.ternary]
  after_results_simp
  rfl

/-- The table of the factor of the lane sixteen above. -/
theorem table_up : V m c main_v27
    = select (cmpi .slt (iotaInDim S16384x128 32 1) (lanes 16#32)) (Host.negf (Host.sin (angles (m ((c : Thread nD τ).loc main_arg1)))))
        (plain 0x00000000#32) := by
  unfold V
  simp only [hostOps0, hostOps0_1, hostOps0_2, hostOps0_3, hostOps0_4, hostOps0_5, hostOps0_6, List.flatten_cons,
    List.flatten_nil, List.append_nil, List.cons_append, List.nil_append]
  simp only [StableHlo.after_cons, StableHlo.after_nil, StableHlo.TRef.unary, StableHlo.TRef.ternary]
  after_results_simp
  rfl

/-- The table of the factor of the lane sixteen below. -/
theorem table_down : V m c main_v33
    = select (andi (cmpi .sge (iotaInDim S16384x128 32 1) (lanes 16#32)) (cmpi .slt (iotaInDim S16384x128 32 1) (lanes 32#32)))
        (Host.sin (angles (m ((c : Thread nD τ).loc main_arg1)))) (plain 0x00000000#32) := by
  unfold V
  simp only [hostOps0, hostOps0_1, hostOps0_2, hostOps0_3, hostOps0_4, hostOps0_5, hostOps0_6, List.flatten_cons,
    List.flatten_nil, List.append_nil, List.cons_append, List.nil_append]
  simp only [StableHlo.after_cons, StableHlo.after_nil, StableHlo.TRef.unary, StableHlo.TRef.ternary]
  after_results_simp
  rfl

/-- The sinks, as a row. -/
theorem table_sinks : V m c main_v34 = shapeCast S1x16 (m ((c : Thread nD τ).loc main_arg2)) shapeCasts_S16_S1x16 := by
  unfold V
  simp only [hostOps0, hostOps0_1, hostOps0_2, hostOps0_3, hostOps0_4, hostOps0_5, hostOps0_6, List.flatten_cons,
    List.flatten_nil, List.append_nil, List.cons_append, List.nil_append]
  simp only [StableHlo.after_cons, StableHlo.after_nil, StableHlo.TRef.unary, StableHlo.TRef.ternary]
  after_results_simp
  rfl

end Cert.SwaIdeal.Layer

end
-- ==== Proof.SwaTables.lean ====
/-
  The kernel's side of the banded attention: the prepared tables read at a row and a lane, and the rows each window
  holds.
-/
module

public import proofs.«01_k».proof.Proof.Gen.SwaIdeal.Value
public import proofs.«01_k».proof.Proof.SwaRows
public import proofs.«01_k».proof.Proof.SwaHeads
public import proofs.«01_k».proof.Proof.SwaRead
public import Idealize.ShloMosaic.Lib.Pipeline.ValueKit

@[expose] public section

set_option maxRecDepth 16384

noncomputable section

namespace Cert.SwaIdeal.Layer

open Cert.SwaIdeal Cert.SwaIdeal.Gen Idealize.ShloMosaic Idealize.ShloMosaic.TcCoe Idealize.SL.Sem
open Idealize.ShloMosaic.Pipeline (Dat)
open Cert.SwaRefIdeal.Read (val_main_v15 val_main_v16 val_main_v18)

/-- The kernel's angles are the reference's, the sixteen of them twice. -/
theorem angles_eq (x : IVec S16384 32) (i : Fin 16384) (e : Fin 128) (h : e.val < 32) :
    angles x (ix2 i e) = val_main_v15 (F := Ideal) x (ix2 i ⟨e.val % 16, by omega⟩) := by
  pointwise [angles, freqs, val_main_v15, Cert.SwaRefIdeal.Read.val_main_v14, Cert.SwaRefIdeal.Read.val_main_v13,
    Cert.SwaRefIdeal.Read.val_main_v12, Cert.SwaRefIdeal.Read.val_main_v11, Cert.SwaRefIdeal.Read.val_main_v10,
    Cert.SwaRefIdeal.Read.val_main_v9, Cert.SwaRefIdeal.Read.val_main_v8, Cert.SwaRefIdeal.Read.val_main_v7,
    Cert.SwaRefIdeal.Read.val_main_v6, Cert.SwaRefIdeal.Read.val_main_v5, Cert.SwaRefIdeal.Read.val_main_v4,
    Cert.SwaRefIdeal.Read.val_main_v3, Cert.SwaRefIdeal.Read.val_main_v2, Cert.SwaRefIdeal.Read.val_main_v1,
    Cert.SwaRefIdeal.Read.val_main_v0, Cert.SwaRefIdeal.Read.val_main_cst, Cert.SwaRefIdeal.Read.val_main_cst_0,
    Cert.SwaRefIdeal.Read.val_main_cst_1, Cert.SwaRefIdeal.Read.val_main_cst_2]
  by_cases h0 : e.val < 16
  · rw [dif_pos h0, Nat.mod_eq_of_lt h0]
  · rw [dif_neg h0, dif_pos (by omega), show e.val % 16 = e.val - 16 by omega]

/-- A choice on a decided truth. -/
theorem select_if {α : Type} (p : Prop) [Decidable p] (x y : α) :
    Scalar.select (BitVec.ofBool (decide p)) x y = if p then x else y := by
  by_cases h : p <;> simp [Scalar.select, h]

/-- A lane is below a number. -/
theorem below (e : Fin 128) : IntOp.cmpi .slt (BitVec.ofNat 32 e.val) 32#32 = BitVec.ofBool (decide (e.val < 32)) := by
  revert e
  decide +kernel

theorem below' (e : Fin 128) : IntOp.cmpi .slt (BitVec.ofNat 32 e.val) 16#32 = BitVec.ofBool (decide (e.val < 16)) := by
  revert e
  decide +kernel

/-- A lane is in the second sixteen. -/
theorem between (e : Fin 128) :
    IntOp.andi (IntOp.cmpi .sge (BitVec.ofNat 32 e.val) 16#32) (IntOp.cmpi .slt (BitVec.ofNat 32 e.val) 32#32)
      = BitVec.ofBool (decide (16 ≤ e.val ∧ e.val < 32)) := by
  revert e
  decide +kernel

variable (m : (ℓ : Loc nD τ sig) → Buf (Elt Ideal) ℓ) (c : Dev nD)

/-- The first table, read at a row and a lane. -/
theorem own_apply (i : Fin 16384) (e : Fin 128) :
    (V m c main_v23 : FVec Ideal S16384x128 .f32) (ix2 i e)
      = if e.val < 32 then Ideal.cos (angles (m ((c : Thread nD τ).loc main_arg1)) (ix2 i e)) else 1 := by
  rw [table_own]
  pointwise [lanes, plain]
  have hb : id (constant (F := Ideal) S_ FTy.f32 1065353216#32) ix0 = 1 := Ideal.ofBits_one_f32
  rw [below, select_if, hb]

/-- The second. -/
theorem up_apply (i : Fin 16384) (e : Fin 128) :
    (V m c main_v27 : FVec Ideal S16384x128 .f32) (ix2 i e)
      = if e.val < 16 then -Ideal.sin (angles (m ((c : Thread nD τ).loc main_arg1)) (ix2 i e)) else 0 := by
  rw [table_up]
  pointwise [lanes, plain]
  have hb : id (constant (F := Ideal) S_ FTy.f32 0#32) ix0 = 0 := Ideal.ofBits_zero_f32
  rw [below', select_if, hb]

/-- The third. -/
theorem down_apply (i : Fin 16384) (e : Fin 128) :
    (V m c main_v33 : FVec Ideal S16384x128 .f32) (ix2 i e)
      = if 16 ≤ e.val ∧ e.val < 32 then Ideal.sin (angles (m ((c : Thread nD τ).loc main_arg1)) (ix2 i e))
        else 0 := by
  rw [table_down]
  pointwise [lanes, plain]
  have hb : id (constant (F := Ideal) S_ FTy.f32 0#32) ix0 = 0 := Ideal.ofBits_zero_f32
  rw [between, select_if, hb]

/-- What the three tables hold of a row of the sequence, for a tile whose row `r` belongs to that row. -/
structure Holds (x1 : IVec S16384 32) (a b c : FVec Ideal S128x128 .f32) (r : Fin 128) (i : Fin 16384) : Prop where
  first : ∀ (d : Fin 128) (h : d.val < 16),
    a (ix2 r d) = cosAt x1 i ⟨d.val, h⟩ ∧ b (ix2 r d) = -sinAt x1 i ⟨d.val, h⟩ ∧ c (ix2 r d) = 0
  second : ∀ (d : Fin 128) (h : ¬ d.val < 16) (h' : d.val < 32),
    a (ix2 r d) = cosAt x1 i ⟨d.val - 16, by omega⟩ ∧ b (ix2 r d) = 0 ∧ c (ix2 r d) = sinAt x1 i ⟨d.val - 16, by omega⟩
  rest : ∀ (d : Fin 128) (h : ¬ d.val < 32), a (ix2 r d) = 1 ∧ b (ix2 r d) = 0 ∧ c (ix2 r d) = 0

/-- The kernel's tables hold every row's cosines and sines. -/
theorem holds_of (a b c' : FVec Ideal S128x128 .f32) (r : Fin 128) (i : Fin 16384)
    (ha : ∀ d, a (ix2 r d) = (V m c main_v23 : FVec Ideal S16384x128 .f32) (ix2 i d))
    (hb : ∀ d, b (ix2 r d) = (V m c main_v27 : FVec Ideal S16384x128 .f32) (ix2 i d))
    (hc : ∀ d, c' (ix2 r d) = (V m c main_v33 : FVec Ideal S16384x128 .f32) (ix2 i d)) :
    Holds (m ((c : Thread nD τ).loc main_arg1)) a b c' r i where
  first d h := by
    rw [ha, hb, hc, own_apply, up_apply, down_apply, if_pos (by omega), if_pos h, if_neg (by omega), angles_eq _ _ _ (by omega)]
    unfold cosAt sinAt
    rw [Cert.SwaRefIdeal.Read.val_main_v16_apply, Cert.SwaRefIdeal.Read.val_main_v18_apply,
      show (⟨d.val % 16, by omega⟩ : Fin 16) = ⟨d.val, h⟩ from Fin.ext (Nat.mod_eq_of_lt h)]
    exact ⟨rfl, rfl, rfl⟩
  second d h h' := by
    rw [ha, hb, hc, own_apply, up_apply, down_apply, if_pos (by omega), if_neg h, if_pos (by omega), angles_eq _ _ _ (by omega)]
    unfold cosAt sinAt
    rw [Cert.SwaRefIdeal.Read.val_main_v16_apply, Cert.SwaRefIdeal.Read.val_main_v18_apply,
      show (⟨d.val % 16, by omega⟩ : Fin 16) = ⟨d.val - 16, by omega⟩ from Fin.ext (by simp only; omega)]
    exact ⟨rfl, rfl, rfl⟩
  rest d h := by
    rw [ha, hb, hc, own_apply, up_apply, down_apply, if_neg h, if_neg (by omega), if_neg (by omega)]
    exact ⟨rfl, rfl, rfl⟩

/-- The sinks' window. -/
theorem read_sinks (t : Fin cfg0.N) (g : Fin 16) :
    (iblk m c 0 t : Vec Ideal S1x16 .f32) (ix2 0 g) = m ((c : Thread nD τ).loc main_arg2) (ix1 g) := by
  have h : (iblk m c 0 t : Vec Ideal S1x16 .f32) (ix2 0 g) = (V m c main_v34 : FVec Ideal S1x16 .f32) (ix2 0 g) := by
    blk_point [iblk, idx t]
  rw [h, table_sinks]
  pointwise []

/-- The queries' window. -/
theorem read_query (t : Fin cfg0.N) (ht : t.val < 64) (r : Fin 256) (e : Fin 2048) :
    (X0_1 m c t : Vec Ideal S256x2048 .f32) (ix2 r e)
      = m ((c : Thread nD τ).loc main_arg0) (ix2 ⟨t.val * 256 + r.val, by omega⟩ ⟨e.val, by omega⟩) := by
  unfold X0_1 Idealize.ShloMosaic.Pipeline.Window.fill
  rw [dif_pos (moved0_1 t _)]
  blk_point [iblk, V, idx t]

/-- The window of the keys before the row block. -/
theorem read_key_before (t : Fin cfg0.N) (ht : t.val < 64) (r : Fin 128) (e : Fin 256) :
    (iblk m c 2 t : Vec Ideal S128x256 .f32) (ix2 r e) = m ((c : Thread nD τ).loc main_arg0) (ix2 ⟨(2 * t.val - 1) * 128 + r.val, by omega⟩ ⟨2048 + e.val, by omega⟩) := by
  blk_point [iblk, V, idx t]

/-- The row block's keys. -/
theorem read_key (t : Fin cfg0.N) (ht : t.val < 64) (r : Fin 256) (e : Fin 256) :
    (iblk m c 3 t : Vec Ideal S256x256 .f32) (ix2 r e) = m ((c : Thread nD τ).loc main_arg0) (ix2 ⟨t.val * 256 + r.val, by omega⟩ ⟨2048 + e.val, by omega⟩) := by
  blk_point [iblk, V, idx t]

/-- The window of the values before the row block. -/
theorem read_value_before (t : Fin cfg0.N) (ht : t.val < 64) (r : Fin 128) (e : Fin 256) :
    (iblk m c 4 t : Vec Ideal S128x256 .f32) (ix2 r e) = m ((c : Thread nD τ).loc main_arg0) (ix2 ⟨(2 * t.val - 1) * 128 + r.val, by omega⟩ ⟨2304 + e.val, by omega⟩) := by
  blk_point [iblk, V, idx t]

/-- The row block's values. -/
theorem read_value (t : Fin cfg0.N) (ht : t.val < 64) (r : Fin 256) (e : Fin 256) :
    (iblk m c 5 t : Vec Ideal S256x256 .f32) (ix2 r e) = m ((c : Thread nD τ).loc main_arg0) (ix2 ⟨t.val * 256 + r.val, by omega⟩ ⟨2304 + e.val, by omega⟩) := by
  blk_point [iblk, V, idx t]

/-- The windows of the tables before the row block. -/
theorem read_own_before (t : Fin cfg0.N) (ht : t.val < 64) (r : Fin 128) (e : Fin 128) :
    (iblk m c 6 t : Vec Ideal S128x128 .f32) (ix2 r e) = (V m c main_v23 : FVec Ideal S16384x128 .f32) (ix2 ⟨(2 * t.val - 1) * 128 + r.val, by omega⟩ e) := by
  blk_point [iblk, idx t]

/-- The same of the next table. -/
theorem read_up_before (t : Fin cfg0.N) (ht : t.val < 64) (r : Fin 128) (e : Fin 128) :
    (iblk m c 7 t : Vec Ideal S128x128 .f32) (ix2 r e) = (V m c main_v27 : FVec Ideal S16384x128 .f32) (ix2 ⟨(2 * t.val - 1) * 128 + r.val, by omega⟩ e) := by
  blk_point [iblk, idx t]

/-- The same of the next table. -/
theorem read_down_before (t : Fin cfg0.N) (ht : t.val < 64) (r : Fin 128) (e : Fin 128) :
    (iblk m c 8 t : Vec Ideal S128x128 .f32) (ix2 r e) = (V m c main_v33 : FVec Ideal S16384x128 .f32) (ix2 ⟨(2 * t.val - 1) * 128 + r.val, by omega⟩ e) := by
  blk_point [iblk, idx t]

/-- The row block's tables. -/
theorem read_own (t : Fin cfg0.N) (ht : t.val < 64) (r : Fin 256) (e : Fin 128) :
    (iblk m c 9 t : Vec Ideal S256x128 .f32) (ix2 r e) = (V m c main_v23 : FVec Ideal S16384x128 .f32) (ix2 ⟨t.val * 256 + r.val, by omega⟩ e) := by
  blk_point [iblk, idx t]

/-- The same of the next table. -/
theorem read_up (t : Fin cfg0.N) (ht : t.val < 64) (r : Fin 256) (e : Fin 128) :
    (iblk m c 10 t : Vec Ideal S256x128 .f32) (ix2 r e) = (V m c main_v27 : FVec Ideal S16384x128 .f32) (ix2 ⟨t.val * 256 + r.val, by omega⟩ e) := by
  blk_point [iblk, idx t]

/-- The same of the next table. -/
theorem read_down (t : Fin cfg0.N) (ht : t.val < 64) (r : Fin 256) (e : Fin 128) :
    (iblk m c 11 t : Vec Ideal S256x128 .f32) (ix2 r e) = (V m c main_v33 : FVec Ideal S16384x128 .f32) (ix2 ⟨t.val * 256 + r.val, by omega⟩ e) := by
  blk_point [iblk, idx t]

end Cert.SwaIdeal.Layer

end
-- ==== Proof.SwaHalf.lean ====
/-
  One half of a row block of the banded attention is the reference's block: the kernel's arithmetic on the tiles it loads, when
  they hold the block's rows and the rows before it.
-/
module

public import proofs.«01_k».proof.Proof.SwaTables
public import Idealize.ShloMosaic.Lib.Pipeline.ValueKit

@[expose] public section

set_option maxRecDepth 16384

noncomputable section

namespace Cert.SwaIdeal.Layer

open Cert.SwaIdeal Cert.SwaIdeal.Gen Idealize.ShloMosaic Idealize.ShloMosaic.TcCoe Idealize.SL.Sem
open Idealize.ShloMosaic.Pipeline (Dat)
open Cert.SwaRefIdeal.Read (val_main_v53 val_main_v59 val_main_v66 val_main_v109 val_main_v132)

variable (x0 : FVec Ideal S16384x2560 .f32) (x1 : IVec S16384 32) (x2 : FVec Ideal S16 .f32)

/-- The reference's result in block `b`, row `r`, key head `h`, query head `g` of that group and column `d`. -/
theorem result_ref (b r : Fin 128) (h : Fin 2) (g : Fin 8) (d : Fin 128) :
    val_main_v132 (F := Ideal) x0 x1 x2 (ix2 ⟨b.val * 128 + r.val, by omega⟩ ⟨(h.val * 8 + g.val) * 128 + d.val, by omega⟩)
      = attend (fun e => val_main_v53 (F := Ideal) x0 x1 (ix5 b r h g e)) (fun n e => val_main_v59 (F := Ideal) x0 x1 (ix4 b n h e))
          (fun n => val_main_v66 (F := Ideal) x0 (ix4 b n h d)) (fun n => val_main_v109 (F := Ideal) (ix3 b r n))
          (x2 (ix1 ⟨h.val * 8 + g.val, by omega⟩)) := by
  rw [attend_ref]
  have e1 : (⟨(b.val * 128 + r.val) / 128, by omega⟩ : Fin 128) = b := Fin.ext (by simp only; omega)
  have e2 : (⟨(b.val * 128 + r.val) % 128, by omega⟩ : Fin 128) = r := Fin.ext (by simp only; omega)
  have e3 : (⟨((h.val * 8 + g.val) * 128 + d.val) / 1024, by omega⟩ : Fin 2) = h := Fin.ext (by simp only; omega)
  have e4 : (⟨((h.val * 8 + g.val) * 128 + d.val) / 128 % 8, by omega⟩ : Fin 8) = g := Fin.ext (by simp only; omega)
  have e5 : (⟨((h.val * 8 + g.val) * 128 + d.val) % 128, by omega⟩ : Fin 128) = d := Fin.ext (by simp only; omega)
  have e6 : (⟨((h.val * 8 + g.val) * 128 + d.val) / 1024 * 8 + ((h.val * 8 + g.val) * 128 + d.val) / 128 % 8, by omega⟩ : Fin 16)
      = ⟨h.val * 8 + g.val, by omega⟩ := Fin.ext (by simp only; omega)
  simp only [e1, e2, e3, e4, e5, e6]

/-- A rotated tile's row is the reference's rotated row. -/
theorem turn_row {x a b c : FVec Ideal S128x128 .f32} {r : Fin 128} {i : Fin 16384} (hh : Holds x1 a b c r i) (d : Fin 128) :
    turn x a b c (ix2 r d) = turned (fun e => x (ix2 r e)) (cosAt x1 i) (sinAt x1 i) d :=
  turn_turned x a b c r (cosAt x1 i) (sinAt x1 i) hh.first hh.second hh.rest d

/-- One half of a row block is the reference's block of it. -/
theorem half_ref (b : Fin 128) (h : Fin 2) (ok : IVec S256x1024 1) (s : Fin 8 → Elt Ideal .f32)
    (kp kc vp vc ap bp cp a₁ b₁ c₁ : Vec Ideal S128x128 .f32) (q : Fin 8 → Vec Ideal S128x128 .f32)
    (f0 : ∀ i, Fin' (x0 i)) (f2 : ∀ i, Fin' (x2 i))
    (hok : ∀ n R, ok (ix2 n R) = look b.val (R.val % 128) n.val)
    (hs : ∀ g : Fin 8, s g = x2 (ix1 ⟨h.val * 8 + g.val, by omega⟩))
    (hq : ∀ (g : Fin 8) (r e : Fin 128),
      q g (ix2 r e) = x0 (ix2 ⟨b.val * 128 + r.val, by omega⟩ ⟨(h.val * 8 + g.val) * 128 + e.val, by omega⟩))
    (hkc : ∀ r e : Fin 128, kc (ix2 r e) = x0 (ix2 ⟨b.val * 128 + r.val, by omega⟩ ⟨2048 + h.val * 128 + e.val, by omega⟩))
    (hvc : ∀ r e : Fin 128, vc (ix2 r e) = x0 (ix2 ⟨b.val * 128 + r.val, by omega⟩ ⟨2304 + h.val * 128 + e.val, by omega⟩))
    (ht : ∀ r : Fin 128, Holds x1 a₁ b₁ c₁ r ⟨b.val * 128 + r.val, by omega⟩)
    (hkp : 0 < b.val → ∀ r e : Fin 128,
      kp (ix2 r e) = x0 (ix2 ⟨(b.val - 1) * 128 + r.val, by omega⟩ ⟨2048 + h.val * 128 + e.val, by omega⟩))
    (hvp : 0 < b.val → ∀ r e : Fin 128,
      vp (ix2 r e) = x0 (ix2 ⟨(b.val - 1) * 128 + r.val, by omega⟩ ⟨2304 + h.val * 128 + e.val, by omega⟩))
    (htp : 0 < b.val → ∀ r : Fin 128, Holds x1 ap bp cp r ⟨(b.val - 1) * 128 + r.val, by omega⟩)
    (g : Fin 8) (r d : Fin 128) :
    half ok s kp kc vp vc ap bp cp a₁ b₁ c₁ q (ix2 ⟨g.val * 128 + r.val, by omega⟩ d)
      = val_main_v132 (F := Ideal) x0 x1 x2 (ix2 ⟨b.val * 128 + r.val, by omega⟩ ⟨(h.val * 8 + g.val) * 128 + d.val, by omega⟩) := by
  have inside' : ∀ n : Fin 256, val_main_v109 (F := Ideal) (ix3 b r n) = 1#1 → 0 < b.val ∨ 128 ≤ n.val := by
    intro n hn
    rw [look_ref] at hn
    unfold look at hn
    by_contra hc
    rw [decide_eq_false (fun hp => hc hp.2.2)] at hn
    exact absurd hn (by decide)
  rw [half_apply, result_ref]
  refine attend_congr (fun e => ?_) (fun n => ?_) (hs g) (fun n hn e => ?_) (fun n hn => ?_) (f2 _) (fun n hn => ?_)
  · rw [turn_row x1 (ht r), group_ref]
    unfold queryAt
    exact congrArg (fun u => turned u _ _ e) (funext fun d => hq g r d)
  · rw [hok, look_ref]
    exact congrArg (fun u => look b.val u n.val) (by simp only; omega)
  · have hi := inside' n hn
    rw [window_key x0 x1 b n h e hi, key_ref]
    unfold keyAt
    by_cases hlt : n.val < 128
    · have hb : 0 < b.val := by omega
      rw [dif_pos hlt, turn_row x1 (htp hb _)]
      rw [show (⟨(b.val - 1) * 128 + n.val, by omega⟩ : Fin 16384) = ⟨b.val * 128 + n.val - 128, by omega⟩ from
        Fin.ext (by simp only; omega)]
      refine congrArg (fun u => turned u _ _ e) (funext fun d => (hkp hb ⟨n.val, hlt⟩ d).trans ?_)
      exact congrArg (fun u => x0 (ix2 u _)) (Fin.ext (by simp only; omega))
    · rw [dif_neg hlt, turn_row x1 (ht _)]
      rw [show (⟨b.val * 128 + (n.val - 128), by omega⟩ : Fin 16384) = ⟨b.val * 128 + n.val - 128, by omega⟩ from
        Fin.ext (by simp only; omega)]
      refine congrArg (fun u => turned u _ _ e) (funext fun d => (hkc ⟨n.val - 128, by omega⟩ d).trans ?_)
      exact congrArg (fun u => x0 (ix2 u _)) (Fin.ext (by simp only; omega))
  · have hi := inside' n hn
    rw [window_value x0 b n h d hi]
    by_cases hlt : n.val < 128
    · have hb : 0 < b.val := by omega
      rw [dif_pos hlt, hvp hb]
      exact congrArg₂ (fun u w => x0 (ix2 u w)) (Fin.ext (by first | omega | (simp only; omega))) (Fin.ext (by first | omega | (simp only; omega) | simp only))
    · rw [dif_neg hlt, hvc]
      exact congrArg₂ (fun u w => x0 (ix2 u w)) (Fin.ext (by first | omega | (simp only; omega))) (Fin.ext (by first | omega | (simp only; omega) | simp only))
  · have hi := inside' n hn
    refine score_fin (fun e => ?_) (fun e => ?_)
    · rw [group_ref]
      exact queryAt_fin x0 x1 f0 _ _ e
    · rw [window_key x0 x1 b n h e hi, key_ref]
      exact keyAt_fin x0 x1 f0 _ _ e

end Cert.SwaIdeal.Layer

end
-- ==== Proof.SwaTiles.lean ====
/-
  The two halves of a row block as the kernel computes them, for the heads of one key head: the tiles it loads from its windows,
  and that each half is the reference's block.
-/
module

public import proofs.«01_k».proof.Proof.SwaHalf
public import Idealize.ShloMosaic.Lib.Pipeline.ValueKit

@[expose] public section

set_option maxRecDepth 16384

noncomputable section

namespace Cert.SwaIdeal.Layer

open Cert.SwaIdeal Cert.SwaIdeal.Gen Idealize.ShloMosaic Idealize.ShloMosaic.TcCoe Idealize.SL.Sem
open Idealize.ShloMosaic.Pipeline (Dat)
open Cert.SwaRefIdeal.Read (val_main_v132)

/-! ## The tiles lie inside their windows -/

theorem fit_sink (K : Fin 2) (g : Fin 8) : ∀ a, (![0, K.val * 8 + g.val] : Fin 2 → ℕ) a + (![1, 1] : Fin 2 → ℕ) a ≤ S1x16.size a :=
  Fin.forall_fin_two.mpr ⟨show 0 + 1 ≤ 1 by omega, show K.val * 8 + g.val + 1 ≤ 16 by omega⟩

theorem fit_query (H K : Fin 2) (g : Fin 8) :
    ∀ a, (![H.val * 128, (K.val * 8 + g.val) * 128] : Fin 2 → ℕ) a + (![128, 128] : Fin 2 → ℕ) a ≤ S256x2048.size a :=
  Fin.forall_fin_two.mpr ⟨show H.val * 128 + 128 ≤ 256 by omega, show (K.val * 8 + g.val) * 128 + 128 ≤ 2048 by omega⟩

theorem fit_before (K : Fin 2) : ∀ a, (![0, K.val * 128] : Fin 2 → ℕ) a + (![128, 128] : Fin 2 → ℕ) a ≤ S128x256.size a :=
  Fin.forall_fin_two.mpr ⟨show 0 + 128 ≤ 128 by omega, show K.val * 128 + 128 ≤ 256 by omega⟩

theorem fit_block (H K : Fin 2) :
    ∀ a, (![H.val * 128, K.val * 128] : Fin 2 → ℕ) a + (![128, 128] : Fin 2 → ℕ) a ≤ S256x256.size a :=
  Fin.forall_fin_two.mpr ⟨show H.val * 128 + 128 ≤ 256 by omega, show K.val * 128 + 128 ≤ 256 by omega⟩

theorem fit_table (H : Fin 2) : ∀ a, (![H.val * 128, 0] : Fin 2 → ℕ) a + (![128, 128] : Fin 2 → ℕ) a ≤ S256x128.size a :=
  Fin.forall_fin_two.mpr ⟨show H.val * 128 + 128 ≤ 256 by omega, show 0 + 128 ≤ 128 by omega⟩

variable (m : (ℓ : Loc nD τ sig) → Buf (Elt Ideal) ℓ) (c : Dev nD)

/-! ## The tiles -/

/-- A sink. -/
def sinkOf (t : Fin cfg0.N) (K : Fin 2) (g : Fin 8) : Elt Ideal .f32 :=
  View.ld (iblk m c 0 t) (Rect.unit ![0, K.val * 8 + g.val] ![1, 1] (fit_sink K g)) (Shape.Idx.first (s := S1x1) (by decide))

/-- A query head's rows. -/
def queryOf (t : Fin cfg0.N) (H K : Fin 2) (g : Fin 8) : Vec Ideal S128x128 .f32 :=
  View.ld (X0_1 m c t) (Rect.unit ![H.val * 128, (K.val * 8 + g.val) * 128] ![128, 128] (fit_query H K g))

/-- A key head's rows before the row block. -/
def keyBefore (t : Fin cfg0.N) (K : Fin 2) : Vec Ideal S128x128 .f32 :=
  View.ld (iblk m c 2 t) (Rect.unit ![0, K.val * 128] ![128, 128] (fit_before K))

/-- A key head's rows in one half of it. -/
def keyOf (t : Fin cfg0.N) (H K : Fin 2) : Vec Ideal S128x128 .f32 :=
  View.ld (iblk m c 3 t) (Rect.unit ![H.val * 128, K.val * 128] ![128, 128] (fit_block H K))

/-- A value head's rows before the row block. -/
def valueBefore (t : Fin cfg0.N) (K : Fin 2) : Vec Ideal S128x128 .f32 :=
  View.ld (iblk m c 4 t) (Rect.unit ![0, K.val * 128] ![128, 128] (fit_before K))

/-- A value head's rows in one half of it. -/
def valueOf (t : Fin cfg0.N) (H K : Fin 2) : Vec Ideal S128x128 .f32 :=
  View.ld (iblk m c 5 t) (Rect.unit ![H.val * 128, K.val * 128] ![128, 128] (fit_block H K))

/-- The first table's rows in one half. -/
def ownOf (t : Fin cfg0.N) (H : Fin 2) : Vec Ideal S128x128 .f32 :=
  View.ld (iblk m c 9 t) (Rect.unit ![H.val * 128, 0] ![128, 128] (fit_table H))

/-- The second's. -/
def upOf (t : Fin cfg0.N) (H : Fin 2) : Vec Ideal S128x128 .f32 :=
  View.ld (iblk m c 10 t) (Rect.unit ![H.val * 128, 0] ![128, 128] (fit_table H))

/-- The third's. -/
def downOf (t : Fin cfg0.N) (H : Fin 2) : Vec Ideal S128x128 .f32 :=
  View.ld (iblk m c 11 t) (Rect.unit ![H.val * 128, 0] ![128, 128] (fit_table H))

/-- The upper half of a row block. -/
def upper (t : Fin cfg0.N) (K : Fin 2) : FVec Ideal S1024x128 .f32 :=
  half (k0_pay9 (grid0.coords t)) (sinkOf m c t K) (keyBefore m c t K) (keyOf m c t 0 K) (valueBefore m c t K) (valueOf m c t 0 K)
    (iblk m c 6 t) (iblk m c 7 t) (iblk m c 8 t) (ownOf m c t 0) (upOf m c t 0) (downOf m c t 0) (queryOf m c t 0 K)

/-- The lower half. -/
def lower (t : Fin cfg0.N) (K : Fin 2) : FVec Ideal S1024x128 .f32 :=
  half k0_pay8 (sinkOf m c t K) (keyOf m c t 0 K) (keyOf m c t 1 K) (valueOf m c t 0 K) (valueOf m c t 1 K)
    (ownOf m c t 0) (upOf m c t 0) (downOf m c t 0) (ownOf m c t 1) (upOf m c t 1) (downOf m c t 1) (queryOf m c t 1 K)

/-! ## What the tiles hold -/

theorem sinkOf_eq (t : Fin cfg0.N) (K : Fin 2) (g : Fin 8) :
    sinkOf m c t K g = m ((c : Thread nD τ).loc main_arg2) (ix1 ⟨K.val * 8 + g.val, by omega⟩) := by
  have hr := View.ld_unit_apply_of (iblk m c 0 t : Vec Ideal S1x16 .f32) ![0, K.val * 8 + g.val] ![1, 1] (fit_sink K g)
    (Shape.Idx.first (s := S1x1) (by decide)) (ix2 0 ⟨K.val * 8 + g.val, by omega⟩)
    (Fin.forall_fin_two.mpr ⟨rfl, rfl⟩)
  rw [read_sinks] at hr
  unfold sinkOf
  exact hr

theorem queryOf_eq (t : Fin cfg0.N) (ht : t.val < 64) (H K : Fin 2) (g : Fin 8) (r e : Fin 128) :
    queryOf m c t H K g (ix2 r e) = m ((c : Thread nD τ).loc main_arg0) (ix2 ⟨t.val * 256 + (H.val * 128 + r.val), by omega⟩ ⟨(K.val * 8 + g.val) * 128 + e.val, by omega⟩) :=
  (View.ld_unit_apply_of _ _ _ _ (ix2 r e) (ix2 ⟨H.val * 128 + r.val, by omega⟩ ⟨(K.val * 8 + g.val) * 128 + e.val, by omega⟩) (Fin.forall_fin_two.mpr ⟨rfl, rfl⟩)).trans (read_query m c t ht ⟨H.val * 128 + r.val, by omega⟩ ⟨(K.val * 8 + g.val) * 128 + e.val, by omega⟩)

theorem keyBefore_eq (t : Fin cfg0.N) (ht : t.val < 64) (K : Fin 2) (r e : Fin 128) :
    keyBefore m c t K (ix2 r e) = m ((c : Thread nD τ).loc main_arg0) (ix2 ⟨(2 * t.val - 1) * 128 + r.val, by omega⟩ ⟨2048 + (K.val * 128 + e.val), by omega⟩) :=
  (View.ld_unit_apply_of _ _ _ _ (ix2 r e) (ix2 r ⟨K.val * 128 + e.val, by omega⟩) (Fin.forall_fin_two.mpr ⟨(Nat.zero_add _).symm, rfl⟩)).trans (read_key_before m c t ht r ⟨K.val * 128 + e.val, by omega⟩)

theorem valueBefore_eq (t : Fin cfg0.N) (ht : t.val < 64) (K : Fin 2) (r e : Fin 128) :
    valueBefore m c t K (ix2 r e) = m ((c : Thread nD τ).loc main_arg0) (ix2 ⟨(2 * t.val - 1) * 128 + r.val, by omega⟩ ⟨2304 + (K.val * 128 + e.val), by omega⟩) :=
  (View.ld_unit_apply_of _ _ _ _ (ix2 r e) (ix2 r ⟨K.val * 128 + e.val, by omega⟩) (Fin.forall_fin_two.mpr ⟨(Nat.zero_add _).symm, rfl⟩)).trans (read_value_before m c t ht r ⟨K.val * 128 + e.val, by omega⟩)

theorem keyOf_eq (t : Fin cfg0.N) (ht : t.val < 64) (H K : Fin 2) (r e : Fin 128) :
    keyOf m c t H K (ix2 r e) = m ((c : Thread nD τ).loc main_arg0) (ix2 ⟨t.val * 256 + (H.val * 128 + r.val), by omega⟩ ⟨2048 + (K.val * 128 + e.val), by omega⟩) :=
  (View.ld_unit_apply_of _ _ _ _ (ix2 r e) (ix2 ⟨H.val * 128 + r.val, by omega⟩ ⟨K.val * 128 + e.val, by omega⟩) (Fin.forall_fin_two.mpr ⟨rfl, rfl⟩)).trans (read_key m c t ht ⟨H.val * 128 + r.val, by omega⟩ ⟨K.val * 128 + e.val, by omega⟩)

theorem valueOf_eq (t : Fin cfg0.N) (ht : t.val < 64) (H K : Fin 2) (r e : Fin 128) :
    valueOf m c t H K (ix2 r e) = m ((c : Thread nD τ).loc main_arg0) (ix2 ⟨t.val * 256 + (H.val * 128 + r.val), by omega⟩ ⟨2304 + (K.val * 128 + e.val), by omega⟩) :=
  (View.ld_unit_apply_of _ _ _ _ (ix2 r e) (ix2 ⟨H.val * 128 + r.val, by omega⟩ ⟨K.val * 128 + e.val, by omega⟩) (Fin.forall_fin_two.mpr ⟨rfl, rfl⟩)).trans (read_value m c t ht ⟨H.val * 128 + r.val, by omega⟩ ⟨K.val * 128 + e.val, by omega⟩)

theorem ownOf_eq (t : Fin cfg0.N) (ht : t.val < 64) (H : Fin 2) (r e : Fin 128) :
    ownOf m c t H (ix2 r e) = (V m c main_v23 : FVec Ideal S16384x128 .f32) (ix2 ⟨t.val * 256 + (H.val * 128 + r.val), by omega⟩ e) :=
  (View.ld_unit_apply_of _ _ _ _ (ix2 r e) (ix2 ⟨H.val * 128 + r.val, by omega⟩ e) (Fin.forall_fin_two.mpr ⟨rfl, (Nat.zero_add _).symm⟩)).trans (read_own m c t ht ⟨H.val * 128 + r.val, by omega⟩ e)

theorem upOf_eq (t : Fin cfg0.N) (ht : t.val < 64) (H : Fin 2) (r e : Fin 128) :
    upOf m c t H (ix2 r e) = (V m c main_v27 : FVec Ideal S16384x128 .f32) (ix2 ⟨t.val * 256 + (H.val * 128 + r.val), by omega⟩ e) :=
  (View.ld_unit_apply_of _ _ _ _ (ix2 r e) (ix2 ⟨H.val * 128 + r.val, by omega⟩ e) (Fin.forall_fin_two.mpr ⟨rfl, (Nat.zero_add _).symm⟩)).trans (read_up m c t ht ⟨H.val * 128 + r.val, by omega⟩ e)

theorem downOf_eq (t : Fin cfg0.N) (ht : t.val < 64) (H : Fin 2) (r e : Fin 128) :
    downOf m c t H (ix2 r e) = (V m c main_v33 : FVec Ideal S16384x128 .f32) (ix2 ⟨t.val * 256 + (H.val * 128 + r.val), by omega⟩ e) :=
  (View.ld_unit_apply_of _ _ _ _ (ix2 r e) (ix2 ⟨H.val * 128 + r.val, by omega⟩ e) (Fin.forall_fin_two.mpr ⟨rfl, (Nat.zero_add _).symm⟩)).trans (read_down m c t ht ⟨H.val * 128 + r.val, by omega⟩ e)

/-- The tables' rows in one half are the sequence's. -/
theorem table_of (t : Fin cfg0.N) (ht : t.val < 64) (H : Fin 2) (r : Fin 128) (i : Fin 16384)
    (hi : i.val = t.val * 256 + (H.val * 128 + r.val)) :
    Holds (m ((c : Thread nD τ).loc main_arg1)) (ownOf m c t H) (upOf m c t H) (downOf m c t H) r i := by
  rw [show i = ⟨t.val * 256 + (H.val * 128 + r.val), by omega⟩ from Fin.ext hi]
  exact holds_of m c _ _ _ r _ (ownOf_eq m c t ht H r) (upOf_eq m c t ht H r) (downOf_eq m c t ht H r)

/-- So are those before the row block. -/
theorem table_before (t : Fin cfg0.N) (ht : t.val < 64) (r : Fin 128) (i : Fin 16384) (hi : i.val = (2 * t.val - 1) * 128 + r.val) :
    Holds (m ((c : Thread nD τ).loc main_arg1)) (iblk m c 6 t) (iblk m c 7 t) (iblk m c 8 t) r i := by
  rw [show i = ⟨(2 * t.val - 1) * 128 + r.val, by omega⟩ from Fin.ext hi]
  exact holds_of m c _ _ _ r _ (read_own_before m c t ht r) (read_up_before m c t ht r) (read_down_before m c t ht r)

/-- The mask of a lower half. -/
theorem mask_lower (b : ℕ) (hb : 0 < b) (n : Fin 256) (R : Fin 1024) : k0_pay8 (ix2 n R) = look b (R.val % 128) n.val := by
  rw [band_apply]
  unfold look
  simp only [hb, true_or, and_true]

/-- The first point keeps a query from the positions before the sequence. -/
theorem start (u : Fin 64) (n : Fin 256) :
    IntOp.cmpi .sge (BitVec.ofNat 32 n.val) (Scalar.select (Scalar.cmpi .sgt (BitVec.ofNat 32 u.val) 0#32) 0#32 128#32)
      = BitVec.ofBool (decide (0 < 2 * u.val ∨ 128 ≤ n.val)) := by
  revert u n
  decide +kernel

/-- The mask of an upper half. -/
theorem mask_upper (t : Fin cfg0.N) (ht : t.val < 64) (n : Fin 256) (R : Fin 1024) :
    k0_pay9 (grid0.coords t) (ix2 n R) = look (2 * t.val) (R.val % 128) n.val := by
  have hc : ∀ t : Fin cfg0.N, (grid0.coords t 0).val = t.val := (by decide +kernel : ∀ t : Fin grid0.N, (grid0.coords t 0).val = t.val)
  pointwise [k0_pay9]
  rw [band_apply, hc t, start ⟨t.val, ht⟩ n, both]
  unfold look
  simp only [and_assoc]

/-! ## The halves are the reference's blocks -/

theorem upper_ref (f0 : ∀ i, Fin' (m ((c : Thread nD τ).loc main_arg0) i)) (f2 : ∀ i, Fin' (m ((c : Thread nD τ).loc main_arg2) i))
    (t : Fin cfg0.N) (ht : t.val < 64) (K : Fin 2) (g : Fin 8) (r d : Fin 128) :
    upper m c t K (ix2 ⟨g.val * 128 + r.val, by omega⟩ d)
      = val_main_v132 (F := Ideal) (m ((c : Thread nD τ).loc main_arg0)) (m ((c : Thread nD τ).loc main_arg1))
          (m ((c : Thread nD τ).loc main_arg2)) (ix2 ⟨t.val * 256 + r.val, by omega⟩ ⟨(K.val * 8 + g.val) * 128 + d.val, by omega⟩) := by
  unfold upper
  refine (half_ref (m ((c : Thread nD τ).loc main_arg0)) (m ((c : Thread nD τ).loc main_arg1))
    (m ((c : Thread nD τ).loc main_arg2)) ⟨2 * t.val, by omega⟩ K _ _ _ _ _ _ _ _ _ _ _ _ _ f0 f2
    (fun n R => mask_upper t ht n R) (sinkOf_eq m c t K) (fun g r e => (queryOf_eq m c t ht 0 K g r e).trans ?_)
    (fun r e => (keyOf_eq m c t ht 0 K r e).trans ?_) (fun r e => (valueOf_eq m c t ht 0 K r e).trans ?_)
    (fun r => table_of m c t ht 0 r _ ?_) (fun _ r e => (keyBefore_eq m c t ht K r e).trans ?_)
    (fun _ r e => (valueBefore_eq m c t ht K r e).trans ?_) (fun _ r => table_before m c t ht r _ ?_) g r d).trans ?_
  · exact congrArg₂ (fun u w => m ((c : Thread nD τ).loc main_arg0) (ix2 u w)) (Fin.ext (by show t.val * 256 + (0 * 128 + r.val) = 2 * t.val * 128 + r.val; omega)) (rfl)
  · exact congrArg₂ (fun u w => m ((c : Thread nD τ).loc main_arg0) (ix2 u w)) (Fin.ext (by show t.val * 256 + (0 * 128 + r.val) = 2 * t.val * 128 + r.val; omega)) (Fin.ext (by show 2048 + (K.val * 128 + e.val) = 2048 + K.val * 128 + e.val; omega))
  · exact congrArg₂ (fun u w => m ((c : Thread nD τ).loc main_arg0) (ix2 u w)) (Fin.ext (by show t.val * 256 + (0 * 128 + r.val) = 2 * t.val * 128 + r.val; omega)) (Fin.ext (by show 2304 + (K.val * 128 + e.val) = 2304 + K.val * 128 + e.val; omega))
  · show 2 * t.val * 128 + r.val = t.val * 256 + (0 * 128 + r.val); omega
  · exact congrArg₂ (fun u w => m ((c : Thread nD τ).loc main_arg0) (ix2 u w)) (Fin.ext (by show (2 * t.val - 1) * 128 + r.val = (2 * t.val - 1) * 128 + r.val; omega)) (Fin.ext (by show 2048 + (K.val * 128 + e.val) = 2048 + K.val * 128 + e.val; omega))
  · exact congrArg₂ (fun u w => m ((c : Thread nD τ).loc main_arg0) (ix2 u w)) (Fin.ext (by show (2 * t.val - 1) * 128 + r.val = (2 * t.val - 1) * 128 + r.val; omega)) (Fin.ext (by show 2304 + (K.val * 128 + e.val) = 2304 + K.val * 128 + e.val; omega))
  · show (2 * t.val - 1) * 128 + r.val = (2 * t.val - 1) * 128 + r.val; omega
  · exact congrArg (fun u => val_main_v132 (F := Ideal) (m ((c : Thread nD τ).loc main_arg0)) (m ((c : Thread nD τ).loc main_arg1))
      (m ((c : Thread nD τ).loc main_arg2)) (ix2 u ⟨(K.val * 8 + g.val) * 128 + d.val, by omega⟩)) (Fin.ext (by show 2 * t.val * 128 + r.val = t.val * 256 + r.val; omega))

theorem lower_ref (f0 : ∀ i, Fin' (m ((c : Thread nD τ).loc main_arg0) i)) (f2 : ∀ i, Fin' (m ((c : Thread nD τ).loc main_arg2) i))
    (t : Fin cfg0.N) (ht : t.val < 64) (K : Fin 2) (g : Fin 8) (r d : Fin 128) :
    lower m c t K (ix2 ⟨g.val * 128 + r.val, by omega⟩ d)
      = val_main_v132 (F := Ideal) (m ((c : Thread nD τ).loc main_arg0)) (m ((c : Thread nD τ).loc main_arg1))
          (m ((c : Thread nD τ).loc main_arg2))
          (ix2 ⟨t.val * 256 + 128 + r.val, by omega⟩ ⟨(K.val * 8 + g.val) * 128 + d.val, by omega⟩) := by
  unfold lower
  refine (half_ref (m ((c : Thread nD τ).loc main_arg0)) (m ((c : Thread nD τ).loc main_arg1))
    (m ((c : Thread nD τ).loc main_arg2)) ⟨2 * t.val + 1, by omega⟩ K _ _ _ _ _ _ _ _ _ _ _ _ _ f0 f2
    (fun n R => mask_lower _ (Nat.succ_pos _) n R) (sinkOf_eq m c t K) (fun g r e => (queryOf_eq m c t ht 1 K g r e).trans ?_)
    (fun r e => (keyOf_eq m c t ht 1 K r e).trans ?_) (fun r e => (valueOf_eq m c t ht 1 K r e).trans ?_)
    (fun r => table_of m c t ht 1 r _ ?_) (fun _ r e => (keyOf_eq m c t ht 0 K r e).trans ?_)
    (fun _ r e => (valueOf_eq m c t ht 0 K r e).trans ?_) (fun _ r => table_of m c t ht 0 r _ ?_) g r d).trans ?_
  · exact congrArg₂ (fun u w => m ((c : Thread nD τ).loc main_arg0) (ix2 u w)) (Fin.ext (by show t.val * 256 + (1 * 128 + r.val) = (2 * t.val + 1) * 128 + r.val; omega)) (rfl)
  · exact congrArg₂ (fun u w => m ((c : Thread nD τ).loc main_arg0) (ix2 u w)) (Fin.ext (by show t.val * 256 + (1 * 128 + r.val) = (2 * t.val + 1) * 128 + r.val; omega)) (Fin.ext (by show 2048 + (K.val * 128 + e.val) = 2048 + K.val * 128 + e.val; omega))
  · exact congrArg₂ (fun u w => m ((c : Thread nD τ).loc main_arg0) (ix2 u w)) (Fin.ext (by show t.val * 256 + (1 * 128 + r.val) = (2 * t.val + 1) * 128 + r.val; omega)) (Fin.ext (by show 2304 + (K.val * 128 + e.val) = 2304 + K.val * 128 + e.val; omega))
  · show (2 * t.val + 1) * 128 + r.val = t.val * 256 + (1 * 128 + r.val); omega
  · exact congrArg₂ (fun u w => m ((c : Thread nD τ).loc main_arg0) (ix2 u w)) (Fin.ext (by show t.val * 256 + (0 * 128 + r.val) = (2 * t.val + 1 - 1) * 128 + r.val; omega)) (Fin.ext (by show 2048 + (K.val * 128 + e.val) = 2048 + K.val * 128 + e.val; omega))
  · exact congrArg₂ (fun u w => m ((c : Thread nD τ).loc main_arg0) (ix2 u w)) (Fin.ext (by show t.val * 256 + (0 * 128 + r.val) = (2 * t.val + 1 - 1) * 128 + r.val; omega)) (Fin.ext (by show 2304 + (K.val * 128 + e.val) = 2304 + K.val * 128 + e.val; omega))
  · show (2 * t.val + 1 - 1) * 128 + r.val = t.val * 256 + (0 * 128 + r.val); omega
  · exact congrArg (fun u => val_main_v132 (F := Ideal) (m ((c : Thread nD τ).loc main_arg0)) (m ((c : Thread nD τ).loc main_arg1))
      (m ((c : Thread nD τ).loc main_arg2)) (ix2 u ⟨(K.val * 8 + g.val) * 128 + d.val, by omega⟩)) (Fin.ext (by show (2 * t.val + 1) * 128 + r.val = t.val * 256 + 128 + r.val; omega))

/-! ## The stored tiles -/

/-- A tile of a half, as it is stored. -/
theorem cut_apply (o : FVec Ideal S1024x128 .f32) (k : ℕ) (hk : k + 128 ≤ 1024) (hs : S1024x128.Slices ![k, 0] S128x128) (r d : Fin 128) :
    truncf .bf16 (extractStridedSlice S128x128 ![k, 0] o hs) bitsLt_bf16_f32 (ix2 r d) = o (ix2 ⟨k + r.val, by omega⟩ d) := by
  pointwise []

/-- A tile of a half holds an array's values when the half does. -/
theorem tile_of (o : FVec Ideal S1024x128 .f32) (X : FVec Ideal S16384x2048 .bf16) (k row col : ℕ) (hk : k + 128 ≤ 1024)
    (hr : row + 128 ≤ 16384) (hc : col + 128 ≤ 2048)
    (he : ∀ r d : Fin 128, o (ix2 ⟨k + r.val, by omega⟩ d) = X (ix2 ⟨row + r.val, by omega⟩ ⟨col + d.val, by omega⟩))
    (hs : S1024x128.Slices ![k, 0] S128x128) (x : S128x128.Idx) (i : Fin 16384) (j : Fin 2048) (ei : i.val = row + (x 0).val)
    (ej : j.val = col + (x 1).val) :
    truncf .bf16 (extractStridedSlice S128x128 ![k, 0] o hs) bitsLt_bf16_f32 x = X (ix2 i j) := by
  have l0 : (x 0).val < 128 := (x 0).isLt
  have l1 : (x 1).val < 128 := (x 1).isLt
  have hx : x = ix2 ⟨(x 0).val, l0⟩ ⟨(x 1).val, l1⟩ := funext (Fin.forall_fin_two.mpr ⟨rfl, rfl⟩)
  have hi : i = ⟨row + (x 0).val, by omega⟩ := Fin.ext ei
  have hj : j = ⟨col + (x 1).val, by omega⟩ := Fin.ext ej
  rw [hi, hj]
  exact (congrArg (truncf .bf16 (extractStridedSlice S128x128 ![k, 0] o hs) bitsLt_bf16_f32) hx).trans
    ((cut_apply o k hk hs _ _).trans (he _ _))

/-- A stored tile of an upper half holds the reference's values. -/
theorem upper_tile (f0 : ∀ i, Fin' (m ((c : Thread nD τ).loc main_arg0) i)) (f2 : ∀ i, Fin' (m ((c : Thread nD τ).loc main_arg2) i))
    (t : Fin cfg0.N) (ht : t.val < 64) (K : Fin 2) (g : Fin 8) (hs : S1024x128.Slices ![g.val * 128, 0] S128x128)
    (x : S128x128.Idx) (i : Fin 16384) (j : Fin 2048) (ei : i.val = t.val * 256 + (x 0).val)
    (ej : j.val = (K.val * 8 + g.val) * 128 + (x 1).val) :
    truncf .bf16 (extractStridedSlice S128x128 ![g.val * 128, 0] (upper m c t K) hs) bitsLt_bf16_f32 x
      = val_main_v132 (F := Ideal) (m ((c : Thread nD τ).loc main_arg0)) (m ((c : Thread nD τ).loc main_arg1))
          (m ((c : Thread nD τ).loc main_arg2)) (ix2 i j) :=
  tile_of _ _ (g.val * 128) (t.val * 256) ((K.val * 8 + g.val) * 128) (by omega) (by omega) (by omega)
    (fun r d => upper_ref m c f0 f2 t ht K g r d) hs x i j ei ej

/-- So does one of a lower half. -/
theorem lower_tile (f0 : ∀ i, Fin' (m ((c : Thread nD τ).loc main_arg0) i)) (f2 : ∀ i, Fin' (m ((c : Thread nD τ).loc main_arg2) i))
    (t : Fin cfg0.N) (ht : t.val < 64) (K : Fin 2) (g : Fin 8) (hs : S1024x128.Slices ![g.val * 128, 0] S128x128)
    (x : S128x128.Idx) (i : Fin 16384) (j : Fin 2048) (ei : i.val = (t.val * 256 + 128) + (x 0).val)
    (ej : j.val = (K.val * 8 + g.val) * 128 + (x 1).val) :
    truncf .bf16 (extractStridedSlice S128x128 ![g.val * 128, 0] (lower m c t K) hs) bitsLt_bf16_f32 x
      = val_main_v132 (F := Ideal) (m ((c : Thread nD τ).loc main_arg0)) (m ((c : Thread nD τ).loc main_arg1))
          (m ((c : Thread nD τ).loc main_arg2)) (ix2 i j) :=
  tile_of _ _ (g.val * 128) ((t.val * 256 + 128)) ((K.val * 8 + g.val) * 128) (by omega) (by omega) (by omega)
    (fun r d => lower_ref m c f0 f2 t ht K g r d) hs x i j ei ej

end Cert.SwaIdeal.Layer

end
-- ==== Proof.SwaOut.lean ====
/-
  What a grid point of the banded attention leaves in the result's buffer: thirty-two stored tiles, each a query head's rows in one
  half of the row block.
-/
module

public import proofs.«01_k».proof.Proof.SwaTiles
public import Idealize.ShloMosaic.Lib.Pipeline.ValueKit

@[expose] public section

set_option maxRecDepth 16384

noncomputable section

namespace Cert.SwaIdeal.Layer

open Cert.SwaIdeal Cert.SwaIdeal.Gen Idealize.ShloMosaic Idealize.ShloMosaic.TcCoe Idealize.SL.Sem
open Idealize.ShloMosaic.Pipeline (Dat)
open Cert.SwaRefIdeal.Read (val_main_v132)

variable (m : (ℓ : Loc nD τ sig) → Buf (Elt Ideal) ℓ)

set_option maxHeartbeats 4000000 in
/-- A grid point leaves the reference's rows. -/
theorem left (c : Dev nD) (f0 : ∀ i, Fin' (m ((c : Thread nD τ).loc main_arg0) i))
    (f2 : ∀ i, Fin' (m ((c : Thread nD τ).loc main_arg2) i)) (t : Fin cfg0.N) (ht : t.val < 64) (z : S256x2048.Idx) :
    (dats m 0 c).after 12 t z
      = val_main_v132 (F := Ideal) (m ((c : Thread nD τ).loc main_arg0)) (m ((c : Thread nD τ).loc main_arg1))
          (m ((c : Thread nD τ).loc main_arg2))
          (ix2 ⟨t.val * 256 + (z 0).val, by have : (z 0).val < 256 := (z 0).isLt; omega⟩ ⟨(z 1).val, (z 1).isLt⟩) := by
  rw [after0_12]
  unfold outsAt0
  frame_out
  canon_tiles z h
  case piece0 =>
    exact lower_tile m c f0 f2 t ht 1 7 slices_S1024x128_o896_0_S128x128 _ _ _
      ((congrArg (t.val * 256 + ·) h0).trans (Nat.add_assoc _ _ _).symm) h1
  case piece1 =>
    exact lower_tile m c f0 f2 t ht 1 6 slices_S1024x128_o768_0_S128x128 _ _ _
      ((congrArg (t.val * 256 + ·) h0).trans (Nat.add_assoc _ _ _).symm) h1
  case piece2 =>
    exact lower_tile m c f0 f2 t ht 1 5 slices_S1024x128_o640_0_S128x128 _ _ _
      ((congrArg (t.val * 256 + ·) h0).trans (Nat.add_assoc _ _ _).symm) h1
  case piece3 =>
    exact lower_tile m c f0 f2 t ht 1 4 slices_S1024x128_o512_0_S128x128 _ _ _
      ((congrArg (t.val * 256 + ·) h0).trans (Nat.add_assoc _ _ _).symm) h1
  case piece4 =>
    exact lower_tile m c f0 f2 t ht 1 3 slices_S1024x128_o384_0_S128x128 _ _ _
      ((congrArg (t.val * 256 + ·) h0).trans (Nat.add_assoc _ _ _).symm) h1
  case piece5 =>
    exact lower_tile m c f0 f2 t ht 1 2 slices_S1024x128_o256_0_S128x128 _ _ _
      ((congrArg (t.val * 256 + ·) h0).trans (Nat.add_assoc _ _ _).symm) h1
  case piece6 =>
    exact lower_tile m c f0 f2 t ht 1 1 slices_S1024x128_o128_0_S128x128 _ _ _
      ((congrArg (t.val * 256 + ·) h0).trans (Nat.add_assoc _ _ _).symm) h1
  case piece7 =>
    exact lower_tile m c f0 f2 t ht 1 0 slices_S1024x128_o0_0_S128x128 _ _ _
      ((congrArg (t.val * 256 + ·) h0).trans (Nat.add_assoc _ _ _).symm) h1
  case piece8 =>
    exact upper_tile m c f0 f2 t ht 1 7 slices_S1024x128_o896_0_S128x128 _ _ _ (congrArg (t.val * 256 + ·) h0) h1
  case piece9 =>
    exact upper_tile m c f0 f2 t ht 1 6 slices_S1024x128_o768_0_S128x128 _ _ _ (congrArg (t.val * 256 + ·) h0) h1
  case piece10 =>
    exact upper_tile m c f0 f2 t ht 1 5 slices_S1024x128_o640_0_S128x128 _ _ _ (congrArg (t.val * 256 + ·) h0) h1
  case piece11 =>
    exact upper_tile m c f0 f2 t ht 1 4 slices_S1024x128_o512_0_S128x128 _ _ _ (congrArg (t.val * 256 + ·) h0) h1
  case piece12 =>
    exact upper_tile m c f0 f2 t ht 1 3 slices_S1024x128_o384_0_S128x128 _ _ _ (congrArg (t.val * 256 + ·) h0) h1
  case piece13 =>
    exact upper_tile m c f0 f2 t ht 1 2 slices_S1024x128_o256_0_S128x128 _ _ _ (congrArg (t.val * 256 + ·) h0) h1
  case piece14 =>
    exact upper_tile m c f0 f2 t ht 1 1 slices_S1024x128_o128_0_S128x128 _ _ _ (congrArg (t.val * 256 + ·) h0) h1
  case piece15 =>
    exact upper_tile m c f0 f2 t ht 1 0 slices_S1024x128_o0_0_S128x128 _ _ _ (congrArg (t.val * 256 + ·) h0) h1
  case piece16 =>
    exact lower_tile m c f0 f2 t ht 0 7 slices_S1024x128_o896_0_S128x128 _ _ _
      ((congrArg (t.val * 256 + ·) h0).trans (Nat.add_assoc _ _ _).symm) h1
  case piece17 =>
    exact lower_tile m c f0 f2 t ht 0 6 slices_S1024x128_o768_0_S128x128 _ _ _
      ((congrArg (t.val * 256 + ·) h0).trans (Nat.add_assoc _ _ _).symm) h1
  case piece18 =>
    exact lower_tile m c f0 f2 t ht 0 5 slices_S1024x128_o640_0_S128x128 _ _ _
      ((congrArg (t.val * 256 + ·) h0).trans (Nat.add_assoc _ _ _).symm) h1
  case piece19 =>
    exact lower_tile m c f0 f2 t ht 0 4 slices_S1024x128_o512_0_S128x128 _ _ _
      ((congrArg (t.val * 256 + ·) h0).trans (Nat.add_assoc _ _ _).symm) h1
  case piece20 =>
    exact lower_tile m c f0 f2 t ht 0 3 slices_S1024x128_o384_0_S128x128 _ _ _
      ((congrArg (t.val * 256 + ·) h0).trans (Nat.add_assoc _ _ _).symm) h1
  case piece21 =>
    exact lower_tile m c f0 f2 t ht 0 2 slices_S1024x128_o256_0_S128x128 _ _ _
      ((congrArg (t.val * 256 + ·) h0).trans (Nat.add_assoc _ _ _).symm) h1
  case piece22 =>
    exact lower_tile m c f0 f2 t ht 0 1 slices_S1024x128_o128_0_S128x128 _ _ _
      ((congrArg (t.val * 256 + ·) h0).trans (Nat.add_assoc _ _ _).symm) h1
  case piece23 =>
    exact lower_tile m c f0 f2 t ht 0 0 slices_S1024x128_o0_0_S128x128 _ _ _
      ((congrArg (t.val * 256 + ·) h0).trans (Nat.add_assoc _ _ _).symm) (h1.trans (Nat.zero_add _).symm)
  case piece24 =>
    exact upper_tile m c f0 f2 t ht 0 7 slices_S1024x128_o896_0_S128x128 _ _ _ (congrArg (t.val * 256 + ·) h0) h1
  case piece25 =>
    exact upper_tile m c f0 f2 t ht 0 6 slices_S1024x128_o768_0_S128x128 _ _ _ (congrArg (t.val * 256 + ·) h0) h1
  case piece26 =>
    exact upper_tile m c f0 f2 t ht 0 5 slices_S1024x128_o640_0_S128x128 _ _ _ (congrArg (t.val * 256 + ·) h0) h1
  case piece27 =>
    exact upper_tile m c f0 f2 t ht 0 4 slices_S1024x128_o512_0_S128x128 _ _ _ (congrArg (t.val * 256 + ·) h0) h1
  case piece28 =>
    exact upper_tile m c f0 f2 t ht 0 3 slices_S1024x128_o384_0_S128x128 _ _ _ (congrArg (t.val * 256 + ·) h0) h1
  case piece29 =>
    exact upper_tile m c f0 f2 t ht 0 2 slices_S1024x128_o256_0_S128x128 _ _ _ (congrArg (t.val * 256 + ·) h0) h1
  case piece30 =>
    exact upper_tile m c f0 f2 t ht 0 1 slices_S1024x128_o128_0_S128x128 _ _ _ (congrArg (t.val * 256 + ·) h0) h1
  case piece31 =>
    exact upper_tile m c f0 f2 t ht 0 0 slices_S1024x128_o0_0_S128x128 _ _ _
      (congrArg (t.val * 256 + ·) h0) (h1.trans (Nat.zero_add _).symm)

end Cert.SwaIdeal.Layer

end
-- ==== Proof.SwaValue.lean ====
/-
  Banded attention: the claims about its call. The precondition says that no query, key, value or sink is infinite; with
  it every block that the kernel stores is the reference's.
-/
module

public import proofs.«01_k».proof.Defs
public import proofs.«01_k».proof.Proof.Gen.Swa.Frame
public import proofs.«01_k».proof.Proof.Gen.SwaIdeal.Value
public import proofs.«01_k».proof.Proof.Gen.SwaRefIdeal.Read
public import proofs.«01_k».proof.Proof.SwaOut
public import Idealize.ShloMosaic.Lib.ReduceAll
public import Idealize.ShloMosaic.Lib.Pipeline.ValueKit
public import Idealize.ShloMosaic.Adequacy

@[expose] public section

set_option maxRecDepth 16384

noncomputable section

namespace Cert.SwaIdeal.Layer

open Cert.SwaIdeal Cert.SwaIdeal.Gen Idealize.ShloMosaic Idealize.ShloMosaic.TcCoe Idealize.SL.Sem
open Idealize.ShloMosaic.Pipeline (Dat)
open Cert.SwaRefIdeal.Read

/-- The shape conditions of the precondition's own operations. -/
theorem pre_facts : Cert.Pre_finite_inputs.Facts where
  bcast_S_S16384x2560 := by decide
  reducesTo_S16384x2560_S_d0_1 := by decide
  h_S_ := by decide
  bcast_S_S16 := by decide
  reducesTo_S16_S_d0 := by decide

/-- A number whose size compares below the float's infinity is a real. -/
theorem real_of_lt (x : Ideal .f32)
    (h : FloatOps.cmpf (F := Ideal) .olt (FloatOps.absf (F := Ideal) x)
      (FloatOps.ofBits (F := Ideal) .f32 0x7F800000#32) = 1#1) : Fin' x := by
  have top : (FloatOps.ofBits (F := Ideal) .f32 0x7F800000#32 : Ideal .f32) = (⊤ : EReal) := by
    simp [FloatOps.ofBits, Ideal.ofBits, Ideal.ieee]
  rw [top] at h
  induction x using EReal.rec with
  | bot => simp [FloatOps.cmpf, FloatOps.absf, Ideal.cmp] at h
  | coe r => exact ⟨r, rfl⟩
  | top => simp [FloatOps.cmpf, FloatOps.absf, Ideal.cmp] at h

/-- Under the precondition no query, key or value is infinite, and no sink is. -/
theorem finite_of (q : FVec Ideal S16384x2560 .f32) (p : IVec S16384 32) (s : FVec Ideal S16 .f32)
    (h : @Cert.Pre_finite_inputs.fn pre_facts Ideal _ q p s = fun _ => 1#1) :
    (∀ i, Fin' (q i)) ∧ ∀ i, Fin' (s i) := by
  have h0 := congrFun h (fun a : Fin 0 => a.elim0)
  have both : _ ∧ _ := (by decide : ∀ a b : BitVec 1, IntOp.andi a b = 1#1 → a = 1#1 ∧ b = 1#1) _ _ h0
  exact ⟨fun i => real_of_lt _ (Host.reduce_andi_all _ _ _ _ _ both.1 i),
    fun i => real_of_lt _ (Host.reduce_andi_all _ _ _ _ _ both.2 i)⟩

variable (m : (ℓ : Loc nD τ sig) → Buf (Elt Ideal) ℓ) (ρ : Dev nD → PrngReg)

/-- An element of the result's block lies below as many whole blocks as the step counts. -/
theorem place (t : Fin cfg0.N) (ht : t.val < 64) (y : (win0_12.xblock (grid0.coords t)).Idx)
    (h0 : t.val * 256 + (y 0).val < 16384) (h1 : (y 1).val < 2048) :
    (win0_12.blk t).view.emb y = ix2 ⟨t.val * 256 + (y 0).val, h0⟩ ⟨(y 1).val, h1⟩ := by
  have at_ : win0_12.index t = ![t.val, 0] := (idx t).2.2.2.2.2.2.2.2.2.2.2.2.1
  funext a
  refine Fin.ext ((Pipeline.Window.rect_emb_val win0_12 t y a).trans ?_)
  rw [at_]
  revert a
  refine Fin.forall_fin_two.2 ⟨rfl, ?_⟩
  exact Nat.zero_add _

/-- The result array after the run is the reference's. -/
theorem final (c : Dev nD) (f0 : ∀ i, Fin' (m ((c : Thread nD τ).loc main_arg0) i))
    (f2 : ∀ i, Fin' (m ((c : Thread nD τ).loc main_arg2) i)) : (dats m 0 c).arrAt 12 cfg0.N
    = val_main_v132 (F := Ideal) (m ((c : Thread nD τ).loc main_arg0)) (m ((c : Thread nD τ).loc main_arg1))
        (m ((c : Thread nD τ).loc main_arg2)) := by
  refine (dats m 0 c).arrAt_eq_of_covers 12 _ (by decide +kernel) fun t _ y => ?_
  blk_simp
  refine (left m c f0 f2 t (idx t).2.2.2.2.2.2.2.2.2.2.2.2.2 y).trans ?_
  exact congrArg _ (place t (idx t).2.2.2.2.2.2.2.2.2.2.2.2.2 y _ _).symm

/-- The printed program runs to its end and leaves its arguments as they were. -/
theorem ends_printed : quiescent_Swa (hSwa := Cert.Swa.Gen.facts) :=
  fun m ρ _ => Cert.Swa.Gen.frame m ρ

/-- So does its text over the reals. -/
theorem ends_ideal : quiescent_SwaIdeal (hSwaIdeal := Cert.SwaIdeal.Gen.facts) :=
  fun m ρ _ => Cert.SwaIdeal.Gen.frame m ρ

/-- The same where the precondition is supposed. -/
theorem ends_ideal_pre : quiescent_SwaIdeal_pre_finite_inputs (hSwaIdeal := Cert.SwaIdeal.Gen.facts)
    (hPre_finite_inputs := pre_facts) :=
  fun m ρ _ => Cert.SwaIdeal.Gen.frame m ρ

/-- So does the reference. -/
theorem ends_reference : quiescent_SwaRefIdeal (hSwaRefIdeal := Cert.SwaRefIdeal.Gen.facts) :=
  fun m ρ _ => (θ_run _ _ _).mono
    (fun r h => ⟨fun c => (h c).2, Idealize.ShloMosaic.sem_eq_zero_of_no_sems (by decide) r.2⟩)
    (Cert.SwaRefIdeal.Value.run (F := Ideal) m ρ)

/-- And the reference where the precondition is supposed. -/
theorem ends_reference_pre : quiescent_SwaRefIdeal_pre_finite_inputs (hSwaRefIdeal := Cert.SwaRefIdeal.Gen.facts)
    (hPre_finite_inputs := pre_facts) :=
  fun m ρ _ => ends_reference m ρ trivial

/-- The text over the reals differs from the printed one in the masked score alone, which it calls minus infinity. -/
theorem keeps : preserves_Swa_SwaIdeal :=
  IdealRules.named_const.statement Cert.SwaIdeal.κ "mask" .f32 0xF149F2CA#32 ⊥ rfl

/-- The kernel's text over the reals computes what the reference computes, of queries, keys, values and sinks none of
    which is infinite. -/
theorem equals : algebraic_SwaIdeal_SwaRefIdeal_pre_finite_inputs (hSwaIdeal := Cert.SwaIdeal.Gen.facts)
    (hSwaRefIdeal := Cert.SwaRefIdeal.Gen.facts) (hPre_finite_inputs := pre_facts) := by
  intro m ρ m' ρ' hpre hag
  refine ⟨fun c => val_main_v132 (F := Ideal) (m ((c : Thread nD τ).loc main_arg0)) (m ((c : Thread nD τ).loc main_arg1))
      (m ((c : Thread nD τ).loc main_arg2)),
    (θ_run _ _ _).mono (fun _ h c => ⟨(h c).1.trans
      (final m c (finite_of _ _ _ (hpre c)).1 (finite_of _ _ _ (hpre c)).2), (h c).2⟩) (Cert.SwaIdeal.Value.run_blocks m ρ),
    (θ_run _ _ _).mono (fun _ h c => ⟨(h c).1.trans ?_, (h c).2⟩) (Cert.SwaRefIdeal.Value.run m' ρ')⟩
  · beta_reduce
    rw [← (hag c).1, ← (hag c).2.1, ← (hag c).2.2]
    exact val_main_v132_eq ..

end Cert.SwaIdeal.Layer

end
-- ==== Proof.GluValue.lean ====
/-
  The gated linear unit behind the recurrence: `y * sigmoid (y @ W)`, block by block as the reference for the whole array.
-/
module

public import proofs.«01_k».proof.Defs
public import proofs.«01_k».proof.Proof.Gen.Glu.Frame
public import proofs.«01_k».proof.Proof.Gen.GluIdeal.Value
public import proofs.«01_k».proof.Proof.Gen.GluRefIdeal.Read
public import Idealize.ShloMosaic.Lib.Pipeline.ValueKit
public import Idealize.ShloMosaic.Adequacy

@[expose] public section

set_option maxRecDepth 16384

noncomputable section

namespace Cert.GluIdeal.Layer

open Cert.GluIdeal Cert.GluIdeal.Gen Idealize.ShloMosaic Idealize.ShloMosaic.TcCoe Idealize.SL.Sem
open Idealize.ShloMosaic.Pipeline (Dat)
open Cert.GluRefIdeal.Read

variable (m : (ℓ : Loc nD τ sig) → Buf (Elt Ideal) ℓ) (ρ : Dev nD → PrngReg)

/-- The reference's result as a function of the activations and the stacked weights. -/
abbrev glu (y : FVec Ideal S16384x2048 .f32) (w : FVec Ideal S4x2048x2048 .f32) :
    FVec Ideal S16384x2048 .bf16 :=
  val_main_v10 (F := Ideal) y w

/-- The block each window stands on: two column blocks per row block; the activations are read whole for the product
    and by block for the gate. -/
theorem idx : ∀ t : Fin cfg0.N, win0_0.index t = ![t.val / 2, 0]
    ∧ win0_1.index t = ![t.val / 2, t.val % 2]
    ∧ win0_2.index t = ![0, 0, t.val % 2]
    ∧ win0_3.index t = ![t.val / 2, t.val % 2] ∧ t.val < 32 :=
  (by decide +kernel : ∀ t : Fin grid0.N, _)

/-- What the body stores at an element of its block is the reference's element at the place that block has. -/
theorem point (c : Dev nD) (t : Fin cfg0.N) (y : S1024x1024.Idx) :
    k0_pay1 (iblk m c 0 t) (iblk m c 2 t) (iblk m c 1 t) y
      = glu (m ((c : Thread nD τ).loc main_arg0)) (m ((c : Thread nD τ).loc main_arg1)) (((cfg0.win 3).blk t).view.emb y) := by
  pointwise [k0_pay1, glu, val_main_v10, val_main_v9, val_main_v8, val_main_v7, val_main_cst_0, val_main_v6,
    val_main_v5, val_main_cst, val_main_v4, val_main_v3, val_main_v2, val_main_v1, val_main_v0, Ideal.logistic]
  blk_point [iblk, V, idx t]

/-- The result array after the run is the reference's. -/
theorem final (c : Dev nD) : (dats m 0 c).arrAt 3 cfg0.N
    = glu (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The printed program runs to its end and leaves its arguments as they were. -/
theorem ends_printed : quiescent_Glu (hGlu := Cert.Glu.Gen.facts) :=
  fun m ρ _ => Cert.Glu.Gen.frame m ρ

/-- So does its text over the reals. -/
theorem ends_ideal : quiescent_GluIdeal (hGluIdeal := Cert.GluIdeal.Gen.facts) :=
  fun m ρ _ => Cert.GluIdeal.Gen.frame m ρ

/-- So does the reference. -/
theorem ends_reference : quiescent_GluRefIdeal (hGluRefIdeal := Cert.GluRefIdeal.Gen.facts) :=
  fun m ρ _ => (θ_run _ _ _).mono
    (fun r h => ⟨fun c => (h c).2, Idealize.ShloMosaic.sem_eq_zero_of_no_sems (by decide) r.2⟩)
    (Cert.GluRefIdeal.Value.run (F := Ideal) m ρ)

/-- The text over the reals is the printed one, operation by operation. -/
theorem keeps : preserves_Glu_GluIdeal := trivial

/-- The kernel's call and the reference end with the same result. -/
theorem equals : algebraic_GluIdeal_GluRefIdeal (hGluIdeal := Cert.GluIdeal.Gen.facts) (hGluRefIdeal := Cert.GluRefIdeal.Gen.facts) := by
  intro m ρ m' ρ' _ hag
  refine ⟨fun c => glu (m ((c : Thread nD τ).loc main_arg0)) (m ((c : Thread nD τ).loc main_arg1)),
    (θ_run _ _ _).mono (fun _ h c => ⟨(h c).1.trans (final m c), (h c).2⟩) (Cert.GluIdeal.Value.run_blocks m ρ),
    (θ_run _ _ _).mono (fun _ h c => ⟨(h c).1.trans ?_, (h c).2⟩) (Cert.GluRefIdeal.Value.run m' ρ')⟩
  · beta_reduce
    rw [← (hag c).1, ← (hag c).2]
    exact val_main_v10_eq ..

end Cert.GluIdeal.Layer

end
-- ==== Proof.MixValue.lean ====
/-
  The merge of the two mixers: both branches are projected, weighted with their gates and added, block by block as the
  reference does for the whole array.
-/
module

public import proofs.«01_k».proof.Defs
public import proofs.«01_k».proof.Proof.Gen.Mix.Frame
public import proofs.«01_k».proof.Proof.Gen.MixIdeal.Value
public import proofs.«01_k».proof.Proof.Gen.MixRefIdeal.Read
public import Idealize.ShloMosaic.Lib.Pipeline.ValueKit
public import Idealize.ShloMosaic.Adequacy

@[expose] public section

set_option maxRecDepth 16384

noncomputable section

namespace Cert.MixIdeal.Layer

open Cert.MixIdeal Cert.MixIdeal.Gen Idealize.ShloMosaic Idealize.ShloMosaic.TcCoe Idealize.SL.Sem
open Idealize.ShloMosaic.Pipeline (Dat)
open Cert.MixRefIdeal.Read

variable (m : (ℓ : Loc nD τ sig) → Buf (Elt Ideal) ℓ) (ρ : Dev nD → PrngReg)

/-- The reference's result as a function of the branches, the stacked weights and the gates. -/
abbrev mixed (ao : FVec Ideal S16384x2048 .f32) (go : FVec Ideal S16384x2048 .f32) (wa : FVec Ideal S4x2048x4096 .f32) (ws : FVec Ideal S4x2048x4096 .f32) (gates : FVec Ideal S16384x8192 .f32) :
    FVec Ideal S16384x4096 .bf16 :=
  val_main_v23 (F := Ideal) ao go wa ws gates

/-- The block each window stands on: eight column blocks per row block; the second gate lies eight blocks to the right
    of the first. -/
theorem idx : ∀ t : Fin cfg0.N, win0_0.index t = ![t.val / 8, 0]
    ∧ win0_1.index t = ![t.val / 8, 0]
    ∧ win0_2.index t = ![0, 0, t.val % 8]
    ∧ win0_3.index t = ![0, 0, t.val % 8]
    ∧ win0_4.index t = ![t.val / 8, t.val % 8]
    ∧ win0_5.index t = ![t.val / 8, t.val % 8 + 8]
    ∧ win0_6.index t = ![t.val / 8, t.val % 8] ∧ t.val < 128 :=
  (by decide +kernel : ∀ t : Fin grid0.N, _)

/-- What the body stores at an element of its block is the reference's element at the place that block has. -/
theorem point (c : Dev nD) (t : Fin cfg0.N) (y : S1024x512.Idx) :
    k0_pay1 (iblk m c 0 t) (iblk m c 2 t) (iblk m c 1 t) (iblk m c 3 t) (iblk m c 4 t) (iblk m c 5 t) y
      = mixed (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, mixed, val_main_v23, val_main_v22, val_main_v21, val_main_v20, val_main_v19, val_main_cst_2,
    val_main_v18, val_main_v17, val_main_cst_1, val_main_v16, val_main_v15, val_main_v14, val_main_v13, val_main_v12,
    val_main_cst_0, val_main_v11, val_main_v10, val_main_cst, val_main_v9, val_main_v8, val_main_v7, val_main_v6,
    val_main_v5, val_main_v4, val_main_v3, val_main_v2, val_main_v1, val_main_v0, Ideal.logistic]
  blk_point [iblk, V, idx t]

/-- The result array after the run is the reference's. -/
theorem final (c : Dev nD) : (dats m 0 c).arrAt 6 cfg0.N
    = mixed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

/-- The printed program runs to its end and leaves its arguments as they were. -/
theorem ends_printed : quiescent_Mix (hMix := Cert.Mix.Gen.facts) :=
  fun m ρ _ => Cert.Mix.Gen.frame m ρ

/-- So does its text over the reals. -/
theorem ends_ideal : quiescent_MixIdeal (hMixIdeal := Cert.MixIdeal.Gen.facts) :=
  fun m ρ _ => Cert.MixIdeal.Gen.frame m ρ

/-- So does the reference. -/
theorem ends_reference : quiescent_MixRefIdeal (hMixRefIdeal := Cert.MixRefIdeal.Gen.facts) :=
  fun m ρ _ => (θ_run _ _ _).mono
    (fun r h => ⟨fun c => (h c).2, Idealize.ShloMosaic.sem_eq_zero_of_no_sems (by decide) r.2⟩)
    (Cert.MixRefIdeal.Value.run (F := Ideal) m ρ)

/-- The text over the reals is the printed one, operation by operation. -/
theorem keeps : preserves_Mix_MixIdeal := trivial

/-- The kernel's call and the reference end with the same result. -/
theorem equals : algebraic_MixIdeal_MixRefIdeal (hMixIdeal := Cert.MixIdeal.Gen.facts) (hMixRefIdeal := Cert.MixRefIdeal.Gen.facts) := by
  intro m ρ m' ρ' _ hag
  refine ⟨fun c => mixed (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun _ h c => ⟨(h c).1.trans (final m c), (h c).2⟩) (Cert.MixIdeal.Value.run_blocks m ρ),
    (θ_run _ _ _).mono (fun _ h c => ⟨(h c).1.trans ?_, (h c).2⟩) (Cert.MixRefIdeal.Value.run m' ρ')⟩
  · beta_reduce
    rw [← (hag c).1, ← (hag c).2.1, ← (hag c).2.2.1, ← (hag c).2.2.2.1, ← (hag c).2.2.2.2]
    exact val_main_v23_eq ..

end Cert.MixIdeal.Layer

end
-- ==== Proof.OutValue.lean ====
/-
  The output projection of the merged mixers. A point multiplies its own row block into one of two
  scratch buffers and finishes the row block of the point before from the other: the residual sum, and that sum normalised
  for the part that follows. What is written back at a point are the reference's two results on the block before.
-/
module

public import proofs.«01_k».proof.Defs
public import proofs.«01_k».proof.Proof.Gen.Out.Frame
public import proofs.«01_k».proof.Proof.Gen.OutIdeal.Value
public import proofs.«01_k».proof.Proof.Gen.OutRefIdeal.Read
public import Idealize.ShloMosaic.Lib.Pipeline.ValueKit
public import Idealize.ShloMosaic.Adequacy

@[expose] public section

set_option maxRecDepth 16384

noncomputable section

namespace Cert.OutIdeal.Layer

open Cert.OutIdeal Cert.OutIdeal.Gen Idealize.ShloMosaic Idealize.ShloMosaic.TcCoe Idealize.SL.Sem
open Idealize.ShloMosaic.Pipeline (Dat)
open Cert.OutRefIdeal.Read

variable (m : (ℓ : Loc nD τ sig) → Buf (Elt Ideal) ℓ) (ρ : Dev nD → PrngReg)

/-- The block each window stands on: the product runs one row block ahead of the residual and the results, and stays
    on the last row block at the last point. -/
theorem idx : ∀ t : Fin cfg0.N, win0_0.index t = ![min t.val 127, 0] ∧ win0_1.index t = ![0, 0, 0]
    ∧ win0_2.index t = ![t.val - 1, 0] ∧ win0_3.index t = ![0, 0] ∧ win0_4.index t = ![0, 0]
    ∧ win0_5.index t = ![t.val - 1, 0] ∧ win0_6.index t = ![t.val - 1, 0] ∧ t.val < 129 :=
  (by decide +kernel : ∀ t : Fin grid0.N, _)

/-- The first point writes nothing back: its block is the second point's too. -/
theorem flush_pos : ∀ t : Fin cfg0.N, ((cfg0.win 5).flush t = true → t.val ≠ 0) ∧ ((cfg0.win 6).flush t = true → t.val ≠ 0) :=
  (by decide +kernel : ∀ t : Fin grid0.N, (win0_5.flush t = true → t.val ≠ 0) ∧ (win0_6.flush t = true → t.val ≠ 0))

/-- After an even point the first scratch buffer holds the product of that point's row block. -/
theorem scratch_even (c : Dev nD) (t : Fin cfg0.N) (h : t.val % 2 = 0) :
    (outsAt0 m c t.val t.isLt).2.2.1 = k0_pay4 (iblk m c 0 t) (iblk m c 1 t) := by
  have hN := (idx t).2.2.2.2.2.2.2
  by_cases h0 : t.val % 129 = 0
  · rw [outsAt0_A m c t h0 h (by omega)]; frame_out
  · rw [outsAt0_C m c t h0 h (by omega)]; frame_out

/-- After an odd point the second one does. -/
theorem scratch_odd (c : Dev nD) (t : Fin cfg0.N) (h : t.val % 2 = 1) :
    (outsAt0 m c t.val t.isLt).2.2.2 = k0_pay4 (iblk m c 0 t) (iblk m c 1 t) := by
  have hN := (idx t).2.2.2.2.2.2.2
  rw [outsAt0_B m c t (by omega) (by omega) h]; frame_out
  rfl

/-- The residual sum a point leaves, as a function of the residual block, the product and the first gains. -/
abbrev sumOf (h y : FVec Ideal S128x4096 .f32) (g : FVec Ideal S1x4096 .f32) : FVec Ideal S128x4096 .f32 := k0_pay5 h y g

/-- The normalised sum, with the second gains. -/
abbrev normOf (h y : FVec Ideal S128x4096 .f32) (g g' : FVec Ideal S1x4096 .f32) : FVec Ideal S128x4096 .bf16 :=
  k0_pay2 (k0_pay5 h y g) (k0_pay6 g') (k0_pay7 h y g) k0_pay8

/-- The closing arithmetic is the same at odd and at even points. -/
theorem sum_eq : k0_pay10 (F := Ideal) = k0_pay5 := rfl

/-- The same for the normalised sum. -/
theorem norm_eq (h y : FVec Ideal S128x4096 .f32) (g g' : FVec Ideal S1x4096 .f32) :
    k0_pay3 (F := Ideal) (k0_pay10 h y g) (k0_pay11 g') (k0_pay12 h y g) k0_pay13 = normOf h y g g' := rfl

/-- What a later point leaves in the first result's buffer: the end of the row block whose product the point before left. -/
theorem sum_at (c : Dev nD) (t u : Fin cfg0.N) (h : t.val = u.val + 1) :
    (outsAt0 m c t.val t.isLt).1 = sumOf (iblk m c 2 t) (k0_pay4 (iblk m c 0 u) (iblk m c 1 u)) (iblk m c 3 t) := by
  have hN := (idx t).2.2.2.2.2.2.2
  have hu : t.val - 1 = u.val := by omega
  by_cases h1 : t.val % 2 = 1
  · rw [outsAt0_B m c t (by omega) (by omega) h1]; frame_out
    simp only [hu]
    rw [scratch_even m c u (by omega), Memref.IsWhole.read_unread (Memref.isWhole_whole cc0_scratch0)]
    rfl
  · rw [outsAt0_C m c t (by omega) (by omega) (by omega)]; frame_out
    simp only [hu]
    rw [scratch_odd m c u (by omega), Memref.IsWhole.read_unread (Memref.isWhole_whole cc0_scratch1)]

/-- What it leaves in the second result's buffer. -/
theorem norm_at (c : Dev nD) (t u : Fin cfg0.N) (h : t.val = u.val + 1) :
    (outsAt0 m c t.val t.isLt).2.1
      = normOf (iblk m c 2 t) (k0_pay4 (iblk m c 0 u) (iblk m c 1 u)) (iblk m c 3 t) (iblk m c 4 t) := by
  have hN := (idx t).2.2.2.2.2.2.2
  have hu : t.val - 1 = u.val := by omega
  by_cases h1 : t.val % 2 = 1
  · rw [outsAt0_B m c t (by omega) (by omega) h1]; frame_out
    simp only [hu]
    rw [scratch_even m c u (by omega), Memref.IsWhole.read_unread (Memref.isWhole_whole cc0_scratch0)]
    rfl
  · rw [outsAt0_C m c t (by omega) (by omega) (by omega)]; frame_out
    simp only [hu]
    rw [scratch_odd m c u (by omega), Memref.IsWhole.read_unread (Memref.isWhole_whole cc0_scratch1)]

/-- The reference's residual sum as a function of its arrays. -/
abbrev stream (x : FVec Ideal S16384x4096 .f32) (w : FVec Ideal S4x4096x4096 .f32) (h : FVec Ideal S16384x4096 .f32) (gp : FVec Ideal S4096 .f32) :
    FVec Ideal S16384x4096 .f32 :=
  val_main_v16 (F := Ideal) x w h gp

/-- The reference's normalised sum as a function of its arrays. -/
abbrev normed (x : FVec Ideal S16384x4096 .f32) (w : FVec Ideal S4x4096x4096 .f32) (h : FVec Ideal S16384x4096 .f32) (gp : FVec Ideal S4096 .f32) (gn : FVec Ideal S4096 .f32) :
    FVec Ideal S16384x4096 .bf16 :=
  val_main_v30 (F := Ideal) x w h gp gn

/-- The residual sum written back at an element of a block is the reference's element at the place that block has. -/
theorem stream_point (c : Dev nD) (t u : Fin cfg0.N) (h : t.val = u.val + 1) (y : S128x4096.Idx) :
    sumOf (iblk m c 2 t) (k0_pay4 (iblk m c 0 u) (iblk m c 1 u)) (iblk m c 3 t) y
      = stream (m ((c : Thread nD τ).loc main_arg0)) (m ((c : Thread nD τ).loc main_arg1)) (m ((c : Thread nD τ).loc main_arg2)) (m ((c : Thread nD τ).loc main_arg3))
          (((cfg0.win 5).blk t).view.emb y) := by
  have hN := (idx t).2.2.2.2.2.2.2
  have hm : min u.val 127 = t.val - 1 := by omega
  pointwise [sumOf, k0_pay5, k0_pay4, stream, val_main_v16, val_main_v15, val_main_v14, val_main_v13, val_main_v12,
    val_main_v11, val_main_v10, val_main_v9, val_main_v8, val_main_cst_1, val_main_v7, val_main_v6, val_main_cst_0,
    val_main_v5, val_main_v4, val_main_cst, val_main_v3, val_main_v2, val_main_v1, val_main_v0]
  blk_point [iblk, V, idx t, idx u, hm]

/-- The array of residual sums after the run is the reference's. -/
theorem stream_final (c : Dev nD) : (dats m 0 c).arrAt 5 cfg0.N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have h0 := (flush_pos t).1 hf
  rw [after0_5, sum_at m c t ⟨t.val - 1, Nat.lt_of_le_of_lt (Nat.sub_le _ _) t.isLt⟩ (by show t.val = t.val - 1 + 1; omega)]
  exact stream_point m c t _ (by show t.val = t.val - 1 + 1; omega) y

/-- The normalised sum written back at an element of a block is the reference's element at the place that block has. -/
theorem normed_point (c : Dev nD) (t u : Fin cfg0.N) (h : t.val = u.val + 1) (y : S128x4096.Idx) :
    normOf (iblk m c 2 t) (k0_pay4 (iblk m c 0 u) (iblk m c 1 u)) (iblk m c 3 t) (iblk m c 4 t) y
      = normed (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 6).blk t).view.emb y) := by
  have hN := (idx t).2.2.2.2.2.2.2
  have hm : min u.val 127 = t.val - 1 := by omega
  pointwise [normOf, k0_pay2, k0_pay7, k0_pay8, k0_pay6, k0_pay5, k0_pay4, normed, val_main_v30, val_main_v29,
    val_main_v28, val_main_v27, val_main_v26, val_main_v25, val_main_v24, val_main_v23, val_main_v22, val_main_cst_4,
    val_main_v21, val_main_v20, val_main_cst_3, val_main_v19, val_main_v18, val_main_cst_2, val_main_v17,
    val_main_v16, val_main_v15, val_main_v14, val_main_v13, val_main_v12, val_main_v11, val_main_v10, val_main_v9,
    val_main_v8, val_main_cst_1, val_main_v7, val_main_v6, val_main_cst_0, val_main_v5, val_main_v4, val_main_cst,
    val_main_v3, val_main_v2, val_main_v1, val_main_v0]
  blk_point [iblk, V, idx t, idx u, hm]

/-- The array of normalised sums after the run is the reference's. -/
theorem normed_final (c : Dev nD) : (dats m 0 c).arrAt 6 cfg0.N
    = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  have h0 := (flush_pos t).2 hf
  rw [after0_6, norm_at m c t ⟨t.val - 1, Nat.lt_of_le_of_lt (Nat.sub_le _ _) t.isLt⟩ (by show t.val = t.val - 1 + 1; omega)]
  exact normed_point m c t _ (by show t.val = t.val - 1 + 1; omega) y

/-- The printed program runs to its end and leaves its arguments as they were. -/
theorem ends_printed : quiescent_Out (hOut := Cert.Out.Gen.facts) :=
  fun m ρ _ => Cert.Out.Gen.frame m ρ

/-- So does its text over the reals. -/
theorem ends_ideal : quiescent_OutIdeal (hOutIdeal := Cert.OutIdeal.Gen.facts) :=
  fun m ρ _ => Cert.OutIdeal.Gen.frame m ρ

/-- So does the reference. -/
theorem ends_reference : quiescent_OutRefIdeal (hOutRefIdeal := Cert.OutRefIdeal.Gen.facts) :=
  fun m ρ _ => (θ_run _ _ _).mono
    (fun r h => ⟨fun c => (h c).2.2, Idealize.ShloMosaic.sem_eq_zero_of_no_sems (by decide) r.2⟩)
    (Cert.OutRefIdeal.Value.run (F := Ideal) m ρ)

/-- The text over the reals is the printed one, operation by operation. -/
theorem keeps : preserves_Out_OutIdeal := trivial

/-- The kernel's call and the reference end with the same results. -/
theorem equals : algebraic_OutIdeal_OutRefIdeal (hOutIdeal := Cert.OutIdeal.Gen.facts) (hOutRefIdeal := Cert.OutRefIdeal.Gen.facts) := by
  intro m ρ m' ρ' _ hag
  refine ⟨fun c => stream (m ((c : Thread nD τ).loc main_arg0)) (m ((c : Thread nD τ).loc main_arg1)) (m ((c : Thread nD τ).loc main_arg2)) (m ((c : Thread nD τ).loc main_arg3)),
    fun c => normed (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun _ h c => ⟨(h c).1.trans (stream_final m c), (h c).2.1.trans (normed_final m c), (h c).2.2⟩) (Cert.OutIdeal.Value.run_blocks m ρ),
    (θ_run _ _ _).mono (fun _ h c => ⟨(h c).1.trans ?_, (h c).2.1.trans ?_, (h c).2.2⟩) (Cert.OutRefIdeal.Value.run m' ρ')⟩
  · beta_reduce
    rw [← (hag c).1, ← (hag c).2.1, ← (hag c).2.2.1, ← (hag c).2.2.2.1]
    exact val_main_v16_eq ..
  · beta_reduce
    rw [← (hag c).1, ← (hag c).2.1, ← (hag c).2.2.1, ← (hag c).2.2.2.1, ← (hag c).2.2.2.2]
    exact val_main_v30_eq m' c

end Cert.OutIdeal.Layer

end
-- ==== Proof.MemKvValue.lean ====
/-
  Keys and values of the fixed memory: the normalised memory rows times the stacked weights, one column block at a time.
-/
module

public import proofs.«01_k».proof.Defs
public import proofs.«01_k».proof.Proof.Gen.MemKv.Frame
public import proofs.«01_k».proof.Proof.Gen.MemKvIdeal.Value
public import proofs.«01_k».proof.Proof.Gen.MemKvRefIdeal.Read
public import Idealize.ShloMosaic.Lib.Pipeline.ValueKit
public import Idealize.ShloMosaic.Adequacy

@[expose] public section

set_option maxRecDepth 16384

noncomputable section

namespace Cert.MemKvIdeal.Layer

open Cert.MemKvIdeal Cert.MemKvIdeal.Gen Idealize.ShloMosaic Idealize.ShloMosaic.TcCoe Idealize.SL.Sem
open Idealize.ShloMosaic.Pipeline (Dat)
open Cert.MemKvRefIdeal.Read

variable (m : (ℓ : Loc nD τ sig) → Buf (Elt Ideal) ℓ) (ρ : Dev nD → PrngReg)

/-- The reference's result as a function of the memory, the gains and the stacked weights. -/
abbrev memKv (mem : FVec Ideal S256x4096 .f32) (g : FVec Ideal S4096 .f32) (w : FVec Ideal S4x4096x1024 .f32) :
    FVec Ideal S256x1024 .bf16 :=
  val_main_v16 (F := Ideal) mem g w

/-- The block each window stands on: the memory and the gains whole, one column block per point. -/
theorem idx : ∀ t : Fin cfg0.N, win0_0.index t = ![0, 0]
    ∧ win0_1.index t = ![0, 0]
    ∧ win0_2.index t = ![0, 0, t.val]
    ∧ win0_3.index t = ![0, t.val] ∧ t.val < 2 :=
  (by decide +kernel : ∀ t : Fin grid0.N, _)

/-- What the body stores at an element of its block is the reference's element at the place that block has. -/
theorem point (c : Dev nD) (t : Fin cfg0.N) (y : S256x512.Idx) :
    k0_pay1 (iblk m c 0 t) (iblk m c 1 t) (iblk m c 2 t) y
      = memKv (m ((c : Thread nD τ).loc main_arg0)) (m ((c : Thread nD τ).loc main_arg1)) (m ((c : Thread nD τ).loc main_arg2)) (((cfg0.win 3).blk t).view.emb y) := by
  pointwise [k0_pay1, memKv, val_main_v16, val_main_v15, val_main_v14, val_main_v13, val_main_v12, val_main_v11,
    val_main_v10, val_main_v9, val_main_v8, val_main_v7, val_main_v6, val_main_v5, val_main_cst_1, val_main_v4,
    val_main_v3, val_main_cst_0, val_main_v2, val_main_v1, val_main_cst, val_main_v0]
  blk_point [iblk, V, idx t]

/-- The result array after the run is the reference's. -/
theorem final (c : Dev nD) : (dats m 0 c).arrAt 3 cfg0.N
    = memKv (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The printed program runs to its end and leaves its arguments as they were. -/
theorem ends_printed : quiescent_MemKv (hMemKv := Cert.MemKv.Gen.facts) :=
  fun m ρ _ => Cert.MemKv.Gen.frame m ρ

/-- So does its text over the reals. -/
theorem ends_ideal : quiescent_MemKvIdeal (hMemKvIdeal := Cert.MemKvIdeal.Gen.facts) :=
  fun m ρ _ => Cert.MemKvIdeal.Gen.frame m ρ

/-- So does the reference. -/
theorem ends_reference : quiescent_MemKvRefIdeal (hMemKvRefIdeal := Cert.MemKvRefIdeal.Gen.facts) :=
  fun m ρ _ => (θ_run _ _ _).mono
    (fun r h => ⟨fun c => (h c).2, Idealize.ShloMosaic.sem_eq_zero_of_no_sems (by decide) r.2⟩)
    (Cert.MemKvRefIdeal.Value.run (F := Ideal) m ρ)

/-- The text over the reals is the printed one, operation by operation. -/
theorem keeps : preserves_MemKv_MemKvIdeal := trivial

/-- The kernel's call and the reference end with the same result. -/
theorem equals : algebraic_MemKvIdeal_MemKvRefIdeal (hMemKvIdeal := Cert.MemKvIdeal.Gen.facts) (hMemKvRefIdeal := Cert.MemKvRefIdeal.Gen.facts) := by
  intro m ρ m' ρ' _ hag
  refine ⟨fun c => memKv (m ((c : Thread nD τ).loc main_arg0)) (m ((c : Thread nD τ).loc main_arg1)) (m ((c : Thread nD τ).loc main_arg2)),
    (θ_run _ _ _).mono (fun _ h c => ⟨(h c).1.trans (final m c), (h c).2⟩) (Cert.MemKvIdeal.Value.run_blocks m ρ),
    (θ_run _ _ _).mono (fun _ h c => ⟨(h c).1.trans ?_, (h c).2⟩) (Cert.MemKvRefIdeal.Value.run m' ρ')⟩
  · beta_reduce
    rw [← (hag c).1, ← (hag c).2.1, ← (hag c).2.2]
    exact val_main_v16_eq ..

end Cert.MemKvIdeal.Layer

end
-- ==== Proof.CrossHeads.lean ====
/-
  The arithmetic of the cross-attention, head by head: what one head computes, that the kernel's text computes it for each
  of its four heads, and that the reference computes it for the head a column belongs to.
-/
module

public import proofs.«01_k».proof.Proof.Gen.CrossIdeal.Value
public import proofs.«01_k».proof.Proof.Gen.CrossRefIdeal.Read
public import Idealize.ShloMosaic.Lib.Pipeline.ValueKit

@[expose] public section

set_option maxRecDepth 16384

noncomputable section

namespace Cert.CrossIdeal.Layer

open Cert.CrossIdeal Cert.CrossIdeal.Gen Idealize.ShloMosaic Idealize.ShloMosaic.TcCoe Idealize.SL.Sem
open Cert.CrossRefIdeal.Read

/-- The score of one query against the `n`-th key, scaled by the reciprocal root of the head's width. -/
def score (q : Fin 128 → EReal) (k : Fin 256 → Fin 128 → EReal) (n : Fin 256) : EReal :=
  (∑ d, q d * k n d) * Ideal.ofBits FTy.f32 0x3DB504F3#32

/-- The largest score of a query. -/
def top (q : Fin 128 → EReal) (k : Fin 256 → Fin 128 → EReal) : EReal :=
  Finset.fold max (Ideal.ofBits FTy.f32 0xFF800000#32) (score q k) Finset.univ

/-- One column of one head: the values averaged with the softmax of the query's scores. -/
def attend (q : Fin 128 → EReal) (k : Fin 256 → Fin 128 → EReal) (v : Fin 256 → EReal) : EReal :=
  ∑ n, Ideal.div (Ideal.exp (score q k n - top q k)) (∑ n, Ideal.exp (score q k n - top q k)) * v n

/-- A head depends on its arguments only element by element. -/
theorem attend_congr {q q' : Fin 128 → EReal} {k k' : Fin 256 → Fin 128 → EReal} {v v' : Fin 256 → EReal}
    (hq : ∀ d, q d = q' d) (hk : ∀ n d, k n d = k' n d) (hv : ∀ n, v n = v' n) : attend q k v = attend q' k' v' := by
  rw [show q = q' from funext hq, show k = k' from funext fun n => funext (hk n), show v = v' from funext hv]

/-- The largest score is not below the value the search for it starts from. -/
theorem max_top (q : Fin 128 → EReal) (k : Fin 256 → Fin 128 → EReal) :
    max (Ideal.ofBits FTy.f32 0xFF800000#32) (top q k) = top q k :=
  max_eq_right (Finset.le_fold_max _ |>.2 (.inl le_rfl))

section Kernel

variable (a : Vec Ideal S256x4096 .bf16) (w : Vec Ideal S1x4096x512 .bf16) (kv : Vec Ideal S256x1024 .bf16)
  (q : FVec Ideal S256x512 .bf16) (wo : Vec Ideal S1x512x4096 .bf16)

/-- The kernel's first head. -/
theorem head0 (y : S256x128.Idx) :
    k0_pay5 (F := Ideal) a w (View.ld kv (Rect.unit ![0, 0] ![256, 128] inb_S256x1024_S256x128_0_0))
        (View.ld kv (Rect.unit ![0, 512] ![256, 128] inb_S256x1024_S256x128_0_512)) y
      = attend (fun d => k0_pay4 (F := Ideal) a w (ix2 (y 0) ⟨d.val, by omega⟩)) (fun n d => kv (ix2 n ⟨d.val, by omega⟩))
          (fun n => kv (ix2 n ⟨512 + (y 1).val, by have h : (y 1).val < 128 := (y 1).isLt; omega⟩)) := by
  pointwise [k0_pay5]
  rfl

/-- The kernel's second head. -/
theorem head1 (y : S256x128.Idx) :
    k0_pay8 (F := Ideal) (k0_pay6 (F := Ideal) a w (View.ld kv (Rect.unit ![0, 128] ![256, 128] inb_S256x1024_S256x128_0_128)))
        (k0_pay7 (F := Ideal) a w (View.ld kv (Rect.unit ![0, 128] ![256, 128] inb_S256x1024_S256x128_0_128)))
        (View.ld kv (Rect.unit ![0, 640] ![256, 128] inb_S256x1024_S256x128_0_640)) y
      = attend (fun d => k0_pay4 (F := Ideal) a w (ix2 (y 0) ⟨128 + d.val, by omega⟩)) (fun n d => kv (ix2 n ⟨128 + d.val, by omega⟩))
          (fun n => kv (ix2 n ⟨640 + (y 1).val, by have h : (y 1).val < 128 := (y 1).isLt; omega⟩)) := by
  pointwise [k0_pay8, k0_pay7, k0_pay6]
  rfl

/-- The kernel's third head. -/
theorem head2 (y : S256x128.Idx) :
    k0_pay9 (F := Ideal) q (View.ld kv (Rect.unit ![0, 256] ![256, 128] inb_S256x1024_S256x128_0_256))
        (View.ld kv (Rect.unit ![0, 768] ![256, 128] inb_S256x1024_S256x128_0_768)) y
      = attend (fun d => q (ix2 (y 0) ⟨256 + d.val, by omega⟩)) (fun n d => kv (ix2 n ⟨256 + d.val, by omega⟩))
          (fun n => kv (ix2 n ⟨768 + (y 1).val, by have h : (y 1).val < 128 := (y 1).isLt; omega⟩)) := by
  pointwise [k0_pay9]
  rfl

/-- The kernel's last head. -/
theorem head3 (i : Fin 256) (j : Fin 128) :
    (∑ n, k0_pay10 (F := Ideal) q (View.ld kv (Rect.unit ![0, 384] ![256, 128] inb_S256x1024_S256x128_0_384)) (ix2 i n)
        * kv (ix2 n ⟨896 + j.val, by omega⟩))
      = attend (fun d => q (ix2 i ⟨384 + d.val, by omega⟩)) (fun n d => kv (ix2 n ⟨384 + d.val, by omega⟩))
          (fun n => kv (ix2 n ⟨896 + j.val, by omega⟩)) := by
  pointwise [k0_pay10]
  rfl

/-- What the kernel leaves for a row block before the normalisation, as a function of the blocks it reads. -/
def product : FVec Ideal S256x4096 .f32 :=
  k0_pay11 (F := Ideal)
    (k0_pay5 (F := Ideal) a w (View.ld kv (Rect.unit ![0, 0] ![256, 128] inb_S256x1024_S256x128_0_0))
      (View.ld kv (Rect.unit ![0, 512] ![256, 128] inb_S256x1024_S256x128_0_512)))
    (k0_pay8 (F := Ideal) (k0_pay6 (F := Ideal) a w (View.ld kv (Rect.unit ![0, 128] ![256, 128] inb_S256x1024_S256x128_0_128)))
      (k0_pay7 (F := Ideal) a w (View.ld kv (Rect.unit ![0, 128] ![256, 128] inb_S256x1024_S256x128_0_128)))
      (View.ld kv (Rect.unit ![0, 640] ![256, 128] inb_S256x1024_S256x128_0_640)))
    (k0_pay9 (F := Ideal) (k0_pay4 (F := Ideal) a w) (View.ld kv (Rect.unit ![0, 256] ![256, 128] inb_S256x1024_S256x128_0_256))
      (View.ld kv (Rect.unit ![0, 768] ![256, 128] inb_S256x1024_S256x128_0_768)))
    (k0_pay10 (F := Ideal) (k0_pay4 (F := Ideal) a w) (View.ld kv (Rect.unit ![0, 384] ![256, 128] inb_S256x1024_S256x128_0_384)))
    (View.ld kv (Rect.unit ![0, 896] ![256, 128] inb_S256x1024_S256x128_0_896)) wo

/-- The four heads side by side, times the output weights: column `x` of the heads belongs to head `x / 128`. -/
theorem product_apply (i : Fin 256) (j : Fin 4096) :
    product a w kv wo (ix2 i j) = ∑ x : Fin 512,
      attend (fun d => k0_pay4 (F := Ideal) a w (ix2 i ⟨x.val / 128 * 128 + d.val, by omega⟩))
        (fun n d => kv (ix2 n ⟨x.val / 128 * 128 + d.val, by omega⟩)) (fun n => kv (ix2 n ⟨512 + x.val, by omega⟩))
      * wo (ix3 0 x j) := by
  have hx (x : Fin 512) : x.val < 512 := x.isLt
  unfold product
  pointwise [k0_pay11]
  refine Finset.sum_congr rfl fun x _ => ?_
  congr 1
  have := hx x
  by_cases h0 : x.val < 128
  · rw [dif_pos h0, head0 a w kv]
    refine attend_congr (fun d => ?_) (fun n d => ?_) (fun n => ?_)
    · exact congrArg (k0_pay4 (F := Ideal) a w) (congrArg (ix2 i) (Fin.ext (by simp only; omega)))
    · exact congrArg kv (congrArg (ix2 n) (Fin.ext (by simp only; omega)))
    · exact congrArg kv (congrArg (ix2 n) (Fin.ext (by dsimp only [ix2])))
  by_cases h1 : x.val - 128 < 128
  · rw [dif_neg h0, dif_pos h1, head1 a w kv]
    refine attend_congr (fun d => ?_) (fun n d => ?_) (fun n => ?_)
    · exact congrArg (k0_pay4 (F := Ideal) a w) (congrArg (ix2 i) (Fin.ext (by simp only; omega)))
    · exact congrArg kv (congrArg (ix2 n) (Fin.ext (by simp only; omega)))
    · exact congrArg kv (congrArg (ix2 n) (Fin.ext (by dsimp only [ix2]; omega)))
  by_cases h2 : x.val - 128 - 128 < 128
  · rw [dif_neg h0, dif_neg h1, dif_pos h2, head2 kv]
    refine attend_congr (fun d => ?_) (fun n d => ?_) (fun n => ?_)
    · exact congrArg (k0_pay4 (F := Ideal) a w) (congrArg (ix2 i) (Fin.ext (by simp only; omega)))
    · exact congrArg kv (congrArg (ix2 n) (Fin.ext (by simp only; omega)))
    · exact congrArg kv (congrArg (ix2 n) (Fin.ext (by dsimp only [ix2]; omega)))
  · rw [dif_neg h0, dif_neg h1, dif_neg h2]
    refine (head3 kv (k0_pay4 (F := Ideal) a w) i ⟨x.val - 128 - 128 - 128, by omega⟩).trans ?_
    refine attend_congr (fun d => ?_) (fun n d => ?_) (fun n => ?_)
    · exact congrArg (k0_pay4 (F := Ideal) a w) (congrArg (ix2 i) (Fin.ext (by simp only; omega)))
    · exact congrArg kv (congrArg (ix2 n) (Fin.ext (by simp only; omega)))
    · exact congrArg kv (congrArg (ix2 n) (Fin.ext (by dsimp only [ix2]; omega)))

end Kernel

section Reference

variable (x0 : FVec Ideal S16384x4096 .f32) (x2 : FVec Ideal S4x4096x512 .f32) (x3 : FVec Ideal S256x1024 .f32)

/-- The reference's query of head `h` in row `i`. -/
abbrev queryRef (h : Fin 4) (i : Fin 16384) (d : Fin 128) : EReal :=
  val_main_v2 (F := Ideal) x0 x2 (ix2 i ⟨h.val * 128 + d.val, by omega⟩)

/-- The `n`-th key of head `h`. -/
abbrev keyRef (h : Fin 4) (n : Fin 256) (d : Fin 128) : EReal := x3 (ix2 n ⟨h.val * 128 + d.val, by omega⟩)

/-- The reference's scores. -/
theorem score_ref (h : Fin 4) (i : Fin 16384) (n : Fin 256) :
    val_main_v10 (F := Ideal) x0 x2 x3 (ix3 h i n) = score (queryRef x0 x2 h i) (keyRef x3 h) n := by
  pointwise [val_main_v10, val_main_v9, val_main_v8, val_main_v6, val_main_v4, val_main_v3, val_main_cst]
  rfl

/-- The reference's search for the largest score. -/
theorem search_ref (h : Fin 4) (i : Fin 16384) :
    val_main_v11 (F := Ideal) x0 x2 x3 (ix2 h i) = top (queryRef x0 x2 h i) (keyRef x3 h) := by
  pointwise [val_main_v11, val_main_cst_0]
  simp only [score_ref]
  unfold top
  rfl

/-- The reference's largest score. -/
theorem top_ref (h : Fin 4) (i : Fin 16384) :
    val_main_v13 (F := Ideal) x0 x2 x3 (ix2 h i) = top (queryRef x0 x2 h i) (keyRef x3 h) := by
  rw [val_main_v13_apply, val_main_v12_apply, val_main_cst_1_apply, search_ref]
  exact max_top _ _

/-- The reference's weights before they are divided by their sum. -/
theorem weight_ref (h : Fin 4) (i : Fin 16384) (n : Fin 256) :
    val_main_v17 (F := Ideal) x0 x2 x3 (ix3 h i n)
      = Ideal.exp (score (queryRef x0 x2 h i) (keyRef x3 h) n - top (queryRef x0 x2 h i) (keyRef x3 h)) := by
  pointwise [val_main_v17, val_main_v16, val_main_v15, val_main_v14]
  rw [score_ref, top_ref]

/-- The reference's heads, side by side: column `x` belongs to head `x / 128`. -/
theorem heads_ref (i : Fin 16384) (x : Fin 512) :
    val_main_v24 (F := Ideal) x0 x2 x3 (ix2 i x)
      = attend (queryRef x0 x2 ⟨x.val / 128, by omega⟩ i) (keyRef x3 ⟨x.val / 128, by omega⟩)
          (fun n => x3 (ix2 n ⟨512 + x.val, by omega⟩)) := by
  pointwise [val_main_v24, val_main_v23, val_main_v22, val_main_v21, val_main_v20, val_main_v19, val_main_v18, val_main_cst_2,
    val_main_v7, val_main_v5]
  refine Finset.sum_congr rfl fun n _ => ?_
  rw [mul_comm]
  simp only [weight_ref]

end Reference

end Cert.CrossIdeal.Layer

end
-- ==== Proof.CrossValue.lean ====
/-
  The cross-attention to the memory. A point computes the four heads of its own row block against all of the memory's keys,
  multiplies them by the output weights into one of two scratch buffers, and finishes the row block of the point before from
  the other: the residual sum, and that sum normalised for the part that follows. What is written back at a point are the
  reference's two results on the block before.
-/
module

public import proofs.«01_k».proof.Defs
public import proofs.«01_k».proof.Proof.Gen.Cross.Frame
public import proofs.«01_k».proof.Proof.Gen.CrossIdeal.Value
public import proofs.«01_k».proof.Proof.Gen.CrossRefIdeal.Read
public import Idealize.ShloMosaic.Lib.Pipeline.ValueKit
public import Idealize.ShloMosaic.Adequacy
public import proofs.«01_k».proof.Proof.CrossHeads

@[expose] public section

set_option maxRecDepth 16384

noncomputable section

namespace Cert.CrossIdeal.Layer

open Cert.CrossIdeal Cert.CrossIdeal.Gen Idealize.ShloMosaic Idealize.ShloMosaic.TcCoe Idealize.SL.Sem
open Idealize.ShloMosaic.Pipeline (Dat)
open Cert.CrossRefIdeal.Read

variable (m : (ℓ : Loc nD τ sig) → Buf (Elt Ideal) ℓ) (ρ : Dev nD → PrngReg)

/-- The block each window stands on: the heads run one row block ahead of the residual and the results, and stay on the last
    row block at the last point. -/
theorem idx : ∀ t : Fin cfg0.N, win0_0.index t = ![min t.val 63, 0] ∧ win0_1.index t = ![t.val - 1, 0]
    ∧ win0_2.index t = ![0, 0, 0] ∧ win0_3.index t = ![0, 0] ∧ win0_4.index t = ![0, 0, 0] ∧ win0_5.index t = ![0, 0]
    ∧ win0_6.index t = ![0, 0] ∧ win0_7.index t = ![t.val - 1, 0] ∧ win0_8.index t = ![t.val - 1, 0] ∧ t.val < 65 :=
  (by decide +kernel : ∀ t : Fin grid0.N, _)

/-- The first point writes nothing back: its block is the second point's too. -/
theorem flush_pos : ∀ t : Fin cfg0.N, ((cfg0.win 7).flush t = true → t.val ≠ 0) ∧ ((cfg0.win 8).flush t = true → t.val ≠ 0) :=
  (by decide +kernel : ∀ t : Fin grid0.N, (win0_7.flush t = true → t.val ≠ 0) ∧ (win0_8.flush t = true → t.val ≠ 0))

/-- After an even point the first scratch buffer holds the product of that point's row block. -/
theorem scratch_even (c : Dev nD) (t : Fin cfg0.N) (h : t.val % 2 = 0) :
    (outsAt0 m c t.val t.isLt).2.2.1 = product (iblk m c 0 t) (iblk m c 2 t) (iblk m c 3 t) (iblk m c 4 t) := by
  have hN := (idx t).2.2.2.2.2.2.2.2.2
  by_cases h0 : t.val % 65 = 0
  · rw [outsAt0_A m c t h0 h (by omega)]; frame_out
    rfl
  · rw [outsAt0_C m c t h0 h (by omega)]; frame_out
    rfl

/-- After an odd point the second one does. -/
theorem scratch_odd (c : Dev nD) (t : Fin cfg0.N) (h : t.val % 2 = 1) :
    (outsAt0 m c t.val t.isLt).2.2.2 = product (iblk m c 0 t) (iblk m c 2 t) (iblk m c 3 t) (iblk m c 4 t) := by
  have hN := (idx t).2.2.2.2.2.2.2.2.2
  rw [outsAt0_B m c t (by omega) (by omega) h]; frame_out
  rfl

/-- The residual sum a point leaves, as a function of the residual block, the product and the first gains. -/
abbrev sumOf (h y : FVec Ideal S256x4096 .f32) (g : FVec Ideal S1x4096 .f32) : FVec Ideal S256x4096 .f32 := k0_pay12 h y g

/-- The normalised sum, with the second gains. -/
abbrev normOf (h y : FVec Ideal S256x4096 .f32) (g g' : FVec Ideal S1x4096 .f32) : FVec Ideal S256x4096 .bf16 :=
  k0_pay2 (k0_pay12 h y g) (k0_pay13 g') (k0_pay14 h y g)

/-- What a later point leaves in the first result's buffer: the end of the row block whose product the point before left. -/
theorem sum_at (c : Dev nD) (t u : Fin cfg0.N) (h : t.val = u.val + 1) :
    (outsAt0 m c t.val t.isLt).1 = sumOf (iblk m c 1 t) (product (iblk m c 0 u) (iblk m c 2 u) (iblk m c 3 u) (iblk m c 4 u)) (iblk m c 5 t) := by
  have hN := (idx t).2.2.2.2.2.2.2.2.2
  have hu : t.val - 1 = u.val := by omega
  by_cases h1 : t.val % 2 = 1
  · rw [outsAt0_B m c t (by omega) (by omega) h1]; frame_out
    simp only [hu]
    rw [scratch_even m c u (by omega), Memref.IsWhole.read_unread (Memref.isWhole_whole cc0_scratch0)]
    rfl
  · rw [outsAt0_C m c t (by omega) (by omega) (by omega)]; frame_out
    simp only [hu]
    rw [scratch_odd m c u (by omega), Memref.IsWhole.read_unread (Memref.isWhole_whole cc0_scratch1)]

/-- What it leaves in the second result's buffer. -/
theorem norm_at (c : Dev nD) (t u : Fin cfg0.N) (h : t.val = u.val + 1) :
    (outsAt0 m c t.val t.isLt).2.1 = normOf (iblk m c 1 t) (product (iblk m c 0 u) (iblk m c 2 u) (iblk m c 3 u) (iblk m c 4 u)) (iblk m c 5 t) (iblk m c 6 t) := by
  have hN := (idx t).2.2.2.2.2.2.2.2.2
  have hu : t.val - 1 = u.val := by omega
  by_cases h1 : t.val % 2 = 1
  · rw [outsAt0_B m c t (by omega) (by omega) h1]; frame_out
    simp only [hu]
    rw [scratch_even m c u (by omega), Memref.IsWhole.read_unread (Memref.isWhole_whole cc0_scratch0)]
    rfl
  · rw [outsAt0_C m c t (by omega) (by omega) (by omega)]; frame_out
    simp only [hu]
    rw [scratch_odd m c u (by omega), Memref.IsWhole.read_unread (Memref.isWhole_whole cc0_scratch1)]

/-- The reference's heads times its output weights. -/
abbrev mixed (xn : FVec Ideal S16384x4096 .f32) (wq : FVec Ideal S4x4096x512 .f32) (kv : FVec Ideal S256x1024 .f32)
    (wo : FVec Ideal S4x512x4096 .f32) : FVec Ideal S16384x4096 .f32 :=
  val_main_v27 (F := Ideal) xn wq kv wo

/-- A query of the kernel's row block is the reference's. -/
theorem query_point (c : Dev nD) (u : Fin cfg0.N) (k : ℕ) (hk : min u.val 63 = k) (i : Fin 256) (d : Fin 512) (hi : k * 256 + i.val < 16384) :
    k0_pay4 (F := Ideal) (iblk m c 0 u) (iblk m c 2 u) (ix2 i d)
      = val_main_v2 (F := Ideal) (m ((c : Thread nD τ).loc main_arg0)) (m ((c : Thread nD τ).loc main_arg2)) (ix2 ⟨k * 256 + i.val, hi⟩ d) := by
  pointwise [k0_pay4, val_main_v2, val_main_v1, val_main_v0]
  blk_point [iblk, V, idx u, hk]

/-- The kernel's product for a row block is the reference's on that row block. -/
theorem mixed_point (c : Dev nD) (u : Fin cfg0.N) (k : ℕ) (hk : min u.val 63 = k) (i : Fin 256) (j : Fin 4096) (hi : k * 256 + i.val < 16384) :
    product (iblk m c 0 u) (iblk m c 2 u) (iblk m c 3 u) (iblk m c 4 u) (ix2 i j)
      = mixed (m ((c : Thread nD τ).loc main_arg0)) (m ((c : Thread nD τ).loc main_arg2)) (m ((c : Thread nD τ).loc main_arg3)) (m ((c : Thread nD τ).loc main_arg4)) (ix2 ⟨k * 256 + i.val, hi⟩ j) := by
  rw [product_apply]
  simp only [query_point m c u k hk i _ hi]
  pointwise [mixed, val_main_v27, val_main_v26, val_main_v25]
  simp only [heads_ref]
  refine Finset.sum_congr rfl fun x _ => congrArg₂ (· * ·) ?_ ?_
  · refine attend_congr (fun d => rfl) (fun n d => ?_) (fun n => ?_)
    · blk_point [iblk, V, idx u]
    · blk_point [iblk, V, idx u]
  · blk_point [iblk, V, idx u]

/-- The reference's residual sum as a function of its arrays. -/
abbrev stream (xn : FVec Ideal S16384x4096 .f32) (h : FVec Ideal S16384x4096 .f32) (wq : FVec Ideal S4x4096x512 .f32) (kv : FVec Ideal S256x1024 .f32) (wo : FVec Ideal S4x512x4096 .f32) (gp : FVec Ideal S4096 .f32) :
    FVec Ideal S16384x4096 .f32 :=
  val_main_v41 (F := Ideal) xn h wq kv wo gp

/-- The reference's normalised sum as a function of its arrays. -/
abbrev normed (xn : FVec Ideal S16384x4096 .f32) (h : FVec Ideal S16384x4096 .f32) (wq : FVec Ideal S4x4096x512 .f32) (kv : FVec Ideal S256x1024 .f32) (wo : FVec Ideal S4x512x4096 .f32) (gp : FVec Ideal S4096 .f32) (gn : FVec Ideal S4096 .f32) :
    FVec Ideal S16384x4096 .bf16 :=
  val_main_v55 (F := Ideal) xn h wq kv wo gp gn

/-- The residual sum written back at an element of a block is the reference's element at the place that block has. -/
theorem stream_point (c : Dev nD) (t : Fin cfg0.N) (h : t.val ≠ 0) (b : FVec Ideal S256x4096 .f32)
    (hb : ∀ (i : Fin 256) (j : Fin 4096) (hi : (t.val - 1) * 256 + i.val < 16384),
      b (ix2 i j) = val_main_v27 (F := Ideal) (m ((c : Thread nD τ).loc main_arg0)) (m ((c : Thread nD τ).loc main_arg2)) (m ((c : Thread nD τ).loc main_arg3)) (m ((c : Thread nD τ).loc main_arg4)) (ix2 ⟨(t.val - 1) * 256 + i.val, hi⟩ j))
    (r : Fin 256) (q : Fin 4096) :
    sumOf (iblk m c 1 t) b (iblk m c 5 t) (ix2 r q)
      = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (((cfg0.win 7).blk t).view.emb (ix2 r q)) := by
  have hN := (idx t).2.2.2.2.2.2.2.2.2
  have hi (i : Fin 256) : (t.val - 1) * 256 + i.val < 16384 := by omega
  pointwise [sumOf, k0_pay12, stream, val_main_v41, val_main_v40, val_main_v39, val_main_v38, val_main_v37,
    val_main_v36, val_main_v35, val_main_v34, val_main_v33, val_main_cst_5, val_main_v32, val_main_v31,
    val_main_cst_4, val_main_v30, val_main_v29, val_main_cst_3, val_main_v28]
  simp only [fun i j => hb i j (hi i)]
  blk_point [iblk, V, idx t]

/-- The array of residual sums after the run is the reference's. -/
theorem stream_final (c : Dev nD) : (dats m 0 c).arrAt 7 cfg0.N
    = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  have h0 := (flush_pos t).1 hf
  have hN := (idx t).2.2.2.2.2.2.2.2.2
  rw [after0_7, sum_at m c t ⟨t.val - 1, Nat.lt_of_le_of_lt (Nat.sub_le _ _) t.isLt⟩ (by show t.val = t.val - 1 + 1; omega)]
  rw [← ix2_eta y]
  exact stream_point m c t h0 _ (fun i j hi => mixed_point m c _ (t.val - 1) (by show min (t.val - 1) 63 = t.val - 1; omega) i j hi) (y 0) (y 1)

/-- The normalised sum written back at an element of a block is the reference's element at the place that block has. -/
theorem normed_point (c : Dev nD) (t : Fin cfg0.N) (h : t.val ≠ 0) (b : FVec Ideal S256x4096 .f32)
    (hb : ∀ (i : Fin 256) (j : Fin 4096) (hi : (t.val - 1) * 256 + i.val < 16384),
      b (ix2 i j) = val_main_v27 (F := Ideal) (m ((c : Thread nD τ).loc main_arg0)) (m ((c : Thread nD τ).loc main_arg2)) (m ((c : Thread nD τ).loc main_arg3)) (m ((c : Thread nD τ).loc main_arg4)) (ix2 ⟨(t.val - 1) * 256 + i.val, hi⟩ j))
    (r : Fin 256) (q : Fin 4096) :
    normOf (iblk m c 1 t) b (iblk m c 5 t) (iblk m c 6 t) (ix2 r q)
      = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (((cfg0.win 8).blk t).view.emb (ix2 r q)) := by
  have hN := (idx t).2.2.2.2.2.2.2.2.2
  have hi (i : Fin 256) : (t.val - 1) * 256 + i.val < 16384 := by omega
  pointwise [normOf, k0_pay2, k0_pay14, k0_pay13, k0_pay12, normed, val_main_v55, val_main_v54, val_main_v53,
    val_main_v52, val_main_v51, val_main_v50, val_main_v49, val_main_v48, val_main_v47, val_main_cst_8, val_main_v46,
    val_main_v45, val_main_cst_7, val_main_v44, val_main_v43, val_main_cst_6, val_main_v42, val_main_v41,
    val_main_v40, val_main_v39, val_main_v38, val_main_v37, val_main_v36, val_main_v35, val_main_v34, val_main_v33,
    val_main_cst_5, val_main_v32, val_main_v31, val_main_cst_4, val_main_v30, val_main_v29, val_main_cst_3,
    val_main_v28]
  simp only [fun i j => hb i j (hi i)]
  blk_point [iblk, V, idx t]

/-- The array of normalised sums after the run is the reference's. -/
theorem normed_final (c : Dev nD) : (dats m 0 c).arrAt 8 cfg0.N
    = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  have h0 := (flush_pos t).2 hf
  have hN := (idx t).2.2.2.2.2.2.2.2.2
  rw [after0_8, norm_at m c t ⟨t.val - 1, Nat.lt_of_le_of_lt (Nat.sub_le _ _) t.isLt⟩ (by show t.val = t.val - 1 + 1; omega)]
  rw [← ix2_eta y]
  exact normed_point m c t h0 _ (fun i j hi => mixed_point m c _ (t.val - 1) (by show min (t.val - 1) 63 = t.val - 1; omega) i j hi) (y 0) (y 1)

/-- The printed program runs to its end and leaves its arguments as they were. -/
theorem ends_printed : quiescent_Cross (hCross := Cert.Cross.Gen.facts) :=
  fun m ρ _ => Cert.Cross.Gen.frame m ρ

/-- So does its text over the reals. -/
theorem ends_ideal : quiescent_CrossIdeal (hCrossIdeal := Cert.CrossIdeal.Gen.facts) :=
  fun m ρ _ => Cert.CrossIdeal.Gen.frame m ρ

/-- So does the reference. -/
theorem ends_reference : quiescent_CrossRefIdeal (hCrossRefIdeal := Cert.CrossRefIdeal.Gen.facts) :=
  fun m ρ _ => (θ_run _ _ _).mono
    (fun r h => ⟨fun c => (h c).2.2, Idealize.ShloMosaic.sem_eq_zero_of_no_sems (by decide) r.2⟩)
    (Cert.CrossRefIdeal.Value.run (F := Ideal) m ρ)

/-- The text over the reals is the printed one, operation by operation. -/
theorem keeps : preserves_Cross_CrossIdeal := trivial

/-- The kernel's call and the reference end with the same results. -/
theorem equals : algebraic_CrossIdeal_CrossRefIdeal (hCrossIdeal := Cert.CrossIdeal.Gen.facts) (hCrossRefIdeal := Cert.CrossRefIdeal.Gen.facts) := by
  intro m ρ m' ρ' _ hag
  refine ⟨fun c => stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    (θ_run _ _ _).mono (fun _ h c => ⟨(h c).1.trans (stream_final m c), (h c).2.1.trans (normed_final m c), (h c).2.2⟩) (Cert.CrossIdeal.Value.run_blocks m ρ),
    (θ_run _ _ _).mono (fun _ h c => ⟨(h c).1.trans ?_, (h c).2.1.trans ?_, (h c).2.2⟩) (Cert.CrossRefIdeal.Value.run m' ρ')⟩
  · beta_reduce
    rw [← (hag c).1, ← (hag c).2.1, ← (hag c).2.2.1, ← (hag c).2.2.2.1, ← (hag c).2.2.2.2.1, ← (hag c).2.2.2.2.2.1]
    exact val_main_v41_eq m' c
  · beta_reduce
    rw [← (hag c).1, ← (hag c).2.1, ← (hag c).2.2.1, ← (hag c).2.2.2.1, ← (hag c).2.2.2.2.1, ← (hag c).2.2.2.2.2.1, ← (hag c).2.2.2.2.2.2]
    exact val_main_v55_eq m' c

end Cert.CrossIdeal.Layer

end
-- ==== Proof.LastValue.lean ====
/-
  The layer's last call: the down projection of the last feed-forward, its normalisation and the residual sum.
  A point multiplies its own row block into one of two scratch buffers and finishes the row block of the point before
  from the other, so what is written back at a point is the reference's result on the block before.
-/
module

public import proofs.«01_k».proof.Defs
public import proofs.«01_k».proof.Proof.Gen.Last.Frame
public import proofs.«01_k».proof.Proof.Gen.LastIdeal.Value
public import proofs.«01_k».proof.Proof.Gen.LastRefIdeal.Read
public import Idealize.ShloMosaic.Lib.Pipeline.ValueKit
public import Idealize.ShloMosaic.Adequacy

@[expose] public section

set_option maxRecDepth 16384

noncomputable section

namespace Cert.LastIdeal.Layer

open Cert.LastIdeal Cert.LastIdeal.Gen Idealize.ShloMosaic Idealize.ShloMosaic.TcCoe Idealize.SL.Sem
open Idealize.ShloMosaic.Pipeline (Dat)
open Cert.LastRefIdeal.Read

variable (m : (ℓ : Loc nD τ sig) → Buf (Elt Ideal) ℓ) (ρ : Dev nD → PrngReg)

/-- The block each window stands on: the product runs one row block ahead of the residual and the result, and stays
    on the last row block at the last point. -/
theorem idx : ∀ t : Fin cfg0.N, win0_0.index t = ![min t.val 127, 0] ∧ win0_1.index t = ![3, 0, 0]
    ∧ win0_2.index t = ![t.val - 1, 0] ∧ win0_3.index t = ![0, 0] ∧ win0_4.index t = ![t.val - 1, 0] ∧ t.val < 129 :=
  (by decide +kernel : ∀ t : Fin grid0.N, _)

/-- The first point writes nothing back: its block is the second point's too. -/
theorem flush_pos : ∀ t : Fin cfg0.N, (cfg0.win 4).flush t = true → t.val ≠ 0 :=
  (by decide +kernel : ∀ t : Fin grid0.N, win0_4.flush t = true → t.val ≠ 0)

/-- After an even point the first scratch buffer holds the product of that point's row block. -/
theorem scratch_even (c : Dev nD) (t : Fin cfg0.N) (h : t.val % 2 = 0) :
    (outsAt0 m c t.val t.isLt).2.1 = k0_pay2 (iblk m c 0 t) (iblk m c 1 t) := by
  have hN := (idx t).2.2.2.2.2
  by_cases h0 : t.val % 129 = 0
  · rw [outsAt0_A m c t h0 h (by omega)]; frame_out
  · rw [outsAt0_C m c t h0 h (by omega)]; frame_out

/-- After an odd point the second one does. -/
theorem scratch_odd (c : Dev nD) (t : Fin cfg0.N) (h : t.val % 2 = 1) :
    (outsAt0 m c t.val t.isLt).2.2 = k0_pay2 (iblk m c 0 t) (iblk m c 1 t) := by
  have hN := (idx t).2.2.2.2.2
  rw [outsAt0_B m c t (by omega) (by omega) h]; frame_out
  rfl

/-- The closing arithmetic is the same at odd and at even points. -/
theorem finish_eq : k0_pay5 (F := Ideal) = k0_pay3 := rfl

/-- What a later point leaves in the result's buffer: the end of the row block whose product the point before left. -/
theorem out_eq (c : Dev nD) (t u : Fin cfg0.N) (h : t.val = u.val + 1) :
    (outsAt0 m c t.val t.isLt).1
      = k0_pay3 (iblk m c 2 t) (k0_pay2 (iblk m c 0 u) (iblk m c 1 u)) (iblk m c 3 t) := by
  have hN := (idx t).2.2.2.2.2
  have hu : t.val - 1 = u.val := by omega
  by_cases h1 : t.val % 2 = 1
  · rw [outsAt0_B m c t (by omega) (by omega) h1]; frame_out
    simp only [hu]
    rw [scratch_even m c u (by omega), finish_eq, Memref.IsWhole.read_unread (Memref.isWhole_whole cc0_scratch0)]
  · rw [outsAt0_C m c t (by omega) (by omega) (by omega)]; frame_out
    simp only [hu]
    rw [scratch_odd m c u (by omega), Memref.IsWhole.read_unread (Memref.isWhole_whole cc0_scratch1)]

/-- The reference's result as a function of its four arrays. -/
abbrev down (x : FVec Ideal S16384x4096 .f32) (w : FVec Ideal S4x4096x4096 .f32) (h : FVec Ideal S16384x4096 .f32)
    (g : FVec Ideal S4096 .f32) : FVec Ideal S16384x4096 .f32 :=
  val_main_v18 (F := Ideal) x w h g

/-- What is written back at an element of a block is the reference's element at the place that block has. -/
theorem point (c : Dev nD) (t u : Fin cfg0.N) (h : t.val = u.val + 1) (y : S128x4096.Idx) :
    k0_pay3 (iblk m c 2 t) (k0_pay2 (iblk m c 0 u) (iblk m c 1 u)) (iblk m c 3 t) y
      = down (m ((c : Thread nD τ).loc main_arg0)) (m ((c : Thread nD τ).loc main_arg1)) (m ((c : Thread nD τ).loc main_arg2))
          (m ((c : Thread nD τ).loc main_arg3)) (((cfg0.win 4).blk t).view.emb y) := by
  have hN := (idx t).2.2.2.2.2
  have hm : min u.val 127 = t.val - 1 := by omega
  pointwise [k0_pay3, k0_pay2, down, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  blk_point [iblk, V, idx t, idx u, hm]

/-- The result array after the run is the reference's. -/
theorem final (c : Dev nD) : (dats m 0 c).arrAt 4 cfg0.N
    = down (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  have h0 := flush_pos t hf
  rw [after0_4, out_eq m c t ⟨t.val - 1, Nat.lt_of_le_of_lt (Nat.sub_le _ _) t.isLt⟩ (by show t.val = t.val - 1 + 1; omega)]
  exact point m c t _ (by show t.val = t.val - 1 + 1; omega) y

/-- The printed program runs to its end and leaves its arguments as they were. -/
theorem ends_printed : quiescent_Last (hLast := Cert.Last.Gen.facts) :=
  fun m ρ _ => Cert.Last.Gen.frame m ρ

/-- So does its text over the reals. -/
theorem ends_ideal : quiescent_LastIdeal (hLastIdeal := Cert.LastIdeal.Gen.facts) :=
  fun m ρ _ => Cert.LastIdeal.Gen.frame m ρ

/-- So does the reference. -/
theorem ends_reference : quiescent_LastRefIdeal (hLastRefIdeal := Cert.LastRefIdeal.Gen.facts) :=
  fun m ρ _ => (θ_run _ _ _).mono
    (fun r h => ⟨fun c => (h c).2, Idealize.ShloMosaic.sem_eq_zero_of_no_sems (by decide) r.2⟩)
    (Cert.LastRefIdeal.Value.run (F := Ideal) m ρ)

/-- The text over the reals is the printed one, operation by operation. -/
theorem keeps : preserves_Last_LastIdeal := trivial

/-- The kernel's call and the reference end with the same result. -/
theorem equals : algebraic_LastIdeal_LastRefIdeal (hLastIdeal := Cert.LastIdeal.Gen.facts) (hLastRefIdeal := Cert.LastRefIdeal.Gen.facts) := by
  intro m ρ m' ρ' _ hag
  refine ⟨fun c => down (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (final m c), (h c).2⟩) (Cert.LastIdeal.Value.run_blocks m ρ),
    (θ_run _ _ _).mono (fun _ h c => ⟨(h c).1.trans ?_, (h c).2⟩) (Cert.LastRefIdeal.Value.run m' ρ')⟩
  · beta_reduce
    rw [← (hag c).1, ← (hag c).2.1, ← (hag c).2.2.1, ← (hag c).2.2.2]
    exact val_main_v18_eq ..

end Cert.LastIdeal.Layer

end
-- ==== Proof.lean ====
/-
  The claims about the layer's calls, put together. Every call has a module `Proof/<Name>Value.lean` of its own, which
  proves that the call computes what the reference computes and closes the claims about that call; here they are only listed.
-/
module

public import proofs.«01_k».proof.Defs
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInIdeal.Value
public import proofs.«01_k».proof.Proof.Gen.SsmInRefIdeal
public import proofs.«01_k».proof.Proof.Gen.SsmInRefIdeal.Run
public import proofs.«01_k».proof.Proof.Gen.SsmInRefIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaRefIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossIdeal.Value
public import proofs.«01_k».proof.Proof.Gen.CrossRefIdeal
public import proofs.«01_k».proof.Proof.Gen.CrossRefIdeal.Run
public import proofs.«01_k».proof.Proof.Gen.CrossRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.NormValue
public import proofs.«01_k».proof.Proof.UpValue
public import proofs.«01_k».proof.Proof.DownValue
public import proofs.«01_k».proof.Proof.QkvValue
public import proofs.«01_k».proof.Proof.SsmInValue
public import proofs.«01_k».proof.Proof.GatesValue
public import proofs.«01_k».proof.Proof.SwaValue
public import proofs.«01_k».proof.Proof.GluValue
public import proofs.«01_k».proof.Proof.MixValue
public import proofs.«01_k».proof.Proof.OutValue
public import proofs.«01_k».proof.Proof.MemKvValue
public import proofs.«01_k».proof.Proof.CrossValue
public import proofs.«01_k».proof.Proof.LastValue
public import Idealize.ShloMosaic.Adequacy
public import Idealize.ShloMosaic.Init

@[expose] public section

noncomputable section

namespace Cert.Proof

open Idealize.ShloMosaic Idealize.SL.Sem

/-- Everything claimed: the runs' ends, that the real-number texts keep what was printed, and that they equal the references. -/
theorem claim : Cert.Claim :=
  ⟨Cert.Norm.Gen.facts,
    Cert.NormIdeal.Gen.facts,
    Cert.NormRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Qkv.Gen.facts,
    Cert.QkvIdeal.Gen.facts,
    Cert.QkvRefIdeal.Gen.facts,
    Cert.SsmIn.Gen.facts,
    Cert.SsmInIdeal.Gen.facts,
    Cert.SsmInRefIdeal.Gen.facts,
    Cert.Gates.Gen.facts,
    Cert.GatesIdeal.Gen.facts,
    Cert.GatesRefIdeal.Gen.facts,
    Cert.Swa.Gen.facts,
    Cert.SwaIdeal.Gen.facts,
    Cert.SwaRefIdeal.Gen.facts,
    Cert.Glu.Gen.facts,
    Cert.GluIdeal.Gen.facts,
    Cert.GluRefIdeal.Gen.facts,
    Cert.Mix.Gen.facts,
    Cert.MixIdeal.Gen.facts,
    Cert.MixRefIdeal.Gen.facts,
    Cert.Out.Gen.facts,
    Cert.OutIdeal.Gen.facts,
    Cert.OutRefIdeal.Gen.facts,
    Cert.MemKv.Gen.facts,
    Cert.MemKvIdeal.Gen.facts,
    Cert.MemKvRefIdeal.Gen.facts,
    Cert.Cross.Gen.facts,
    Cert.CrossIdeal.Gen.facts,
    Cert.CrossRefIdeal.Gen.facts,
    Cert.Last.Gen.facts,
    Cert.LastIdeal.Gen.facts,
    Cert.LastRefIdeal.Gen.facts,
    Cert.SwaIdeal.Layer.pre_facts,
    Cert.NormIdeal.Layer.ends_printed,
    Cert.NormIdeal.Layer.ends_ideal,
    Cert.NormIdeal.Layer.ends_reference,
    Cert.UpIdeal.Layer.ends_printed,
    Cert.UpIdeal.Layer.ends_ideal,
    Cert.UpIdeal.Layer.ends_reference,
    Cert.DownIdeal.Layer.ends_printed,
    Cert.DownIdeal.Layer.ends_ideal,
    Cert.DownIdeal.Layer.ends_reference,
    Cert.QkvIdeal.Layer.ends_printed,
    Cert.QkvIdeal.Layer.ends_ideal,
    Cert.QkvIdeal.Layer.ends_reference,
    Cert.SsmInIdeal.Layer.ends_printed,
    Cert.SsmInIdeal.Layer.ends_ideal,
    Cert.SsmInIdeal.Layer.ends_reference,
    Cert.GatesIdeal.Layer.ends_printed,
    Cert.GatesIdeal.Layer.ends_ideal,
    Cert.GatesIdeal.Layer.ends_reference,
    Cert.SwaIdeal.Layer.ends_printed,
    Cert.SwaIdeal.Layer.ends_ideal,
    Cert.SwaIdeal.Layer.ends_ideal_pre,
    Cert.SwaIdeal.Layer.ends_reference,
    Cert.SwaIdeal.Layer.ends_reference_pre,
    Cert.GluIdeal.Layer.ends_printed,
    Cert.GluIdeal.Layer.ends_ideal,
    Cert.GluIdeal.Layer.ends_reference,
    Cert.MixIdeal.Layer.ends_printed,
    Cert.MixIdeal.Layer.ends_ideal,
    Cert.MixIdeal.Layer.ends_reference,
    Cert.OutIdeal.Layer.ends_printed,
    Cert.OutIdeal.Layer.ends_ideal,
    Cert.OutIdeal.Layer.ends_reference,
    Cert.MemKvIdeal.Layer.ends_printed,
    Cert.MemKvIdeal.Layer.ends_ideal,
    Cert.MemKvIdeal.Layer.ends_reference,
    Cert.CrossIdeal.Layer.ends_printed,
    Cert.CrossIdeal.Layer.ends_ideal,
    Cert.CrossIdeal.Layer.ends_reference,
    Cert.LastIdeal.Layer.ends_printed,
    Cert.LastIdeal.Layer.ends_ideal,
    Cert.LastIdeal.Layer.ends_reference,
    Cert.NormIdeal.Layer.keeps,
    Cert.NormIdeal.Layer.equals,
    Cert.UpIdeal.Layer.keeps,
    Cert.UpIdeal.Layer.equals,
    Cert.DownIdeal.Layer.keeps,
    Cert.DownIdeal.Layer.equals,
    Cert.QkvIdeal.Layer.keeps,
    Cert.QkvIdeal.Layer.equals,
    Cert.SsmInIdeal.Layer.keeps,
    Cert.SsmInIdeal.Layer.equals,
    Cert.GatesIdeal.Layer.keeps,
    Cert.GatesIdeal.Layer.equals,
    Cert.SwaIdeal.Layer.keeps,
    Cert.SwaIdeal.Layer.equals,
    Cert.GluIdeal.Layer.keeps,
    Cert.GluIdeal.Layer.equals,
    Cert.MixIdeal.Layer.keeps,
    Cert.MixIdeal.Layer.equals,
    Cert.OutIdeal.Layer.keeps,
    Cert.OutIdeal.Layer.equals,
    Cert.MemKvIdeal.Layer.keeps,
    Cert.MemKvIdeal.Layer.equals,
    Cert.CrossIdeal.Layer.keeps,
    Cert.CrossIdeal.Layer.equals,
    Cert.LastIdeal.Layer.keeps,
    Cert.LastIdeal.Layer.equals⟩

end Cert.Proof

end
